-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S128x100000 : Shape := ⟨2, ![128, 100000]⟩
abbrev S128 : Shape := ⟨1, ![128]⟩
abbrev S_ : Shape := ⟨0, ![]⟩
abbrev S128x1 : Shape := ⟨2, ![128, 1]⟩

class Facts : Prop where
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  slices_S128x100000_S128x1_0_99931 : S128x100000.Slices ![0, 99931] S128x1
  bcast_S_S128x100000 : S_.BroadcastsInDim S128x100000 (![] : Fin 0 → Fin S128x100000.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S128x100000 .f32) : FVec F S128x100000 .f32 :=
  let v0 : FVec F S128x100000 .f32 := (fun x => Host.sort S128x100000 1 comparator_f32_d1 x) arg0
  v0

def fn_part1 {F : FTy → Type} [FloatOps F] (main_arg3 : FVec F S128x100000 .f32) (main_v11 : IVec S128x100000 1) (main_v13 : IVec S128x100000 1) (main_v18 : IVec S128 1) (main_cst_2 : FVec F S_ .f32) : IVec S128x100000 1 × IVec S128 1 × IVec S128x100000 1 × IVec S128x100000 1 :=
  let main_v19 : FVec F S128x100000 .f32 := broadcastInDim S128x100000 ![] bcast_S_S128x100000 main_cst_2
  let main_v20 : IVec S128x100000 1 := cmpf .ogt main_arg3 main_v19
  let main_cst_3 : FVec F S_ .f32 := constant S_ .f32 0x7F800000#32
  let main_v21 : FVec F S128x100000 .f32 := broadcastInDim S128x100000 ![] bcast_S_S128x100000 main_cst_3
  let main_v22 : IVec S128x100000 1 := cmpf .olt main_arg3 main_v21
  let main_v23 : IVec S128x100000 1 := andi main_v20 main_v22
  (main_v13, main_v18, main_v23, main_v11)

def fn {F : FTy → Type} [FloatOps F] (main_arg0 : FVec F S128x100000 .f32) (main_arg1 : IVec S128 32) (main_arg2 : FVec F S128 .f32) (main_arg3 : FVec F S128x100000 .f32) : IVec S128x100000 1 × IVec S128 1 × IVec S128x100000 1 × IVec S128x100000 1 :=
  let main_v0 : FVec F S128x100000 .f32 := fn_sort (F := F) main_arg0
  let main_v1 : IVec S128x100000 32 := iotaInDim S128x100000 32 1
  let main_c : IVec S_ 32 := constantI S_ 32 100000#32
  let main_v2 : IVec S128 32 := broadcastInDim S128 ![] bcast_S_S128 main_c
  let main_v3 : IVec S128 32 := subi main_v2 main_arg1
  let main_v4 : IVec S128x1 32 := broadcastInDim S128x1 ![0] bcast_S128_S128x1_0 main_v3
  let main_v5 : IVec S128x100000 32 := broadcastInDim S128x100000 ![0, 1] bcast_S128x1_S128x100000_0_1 main_v4
  let main_v6 : IVec S128x100000 1 := cmpi .sge main_v1 main_v5
  let main_v7 : IVec S128x100000 1 := noti main_v6
  let main_v8 : FVec F S128x1 .f32 := (extractStridedSlice S128x1 ![0, 99931] · slices_S128x100000_S128x1_0_99931) main_v0
  let main_v9 : FVec F S128x100000 .f32 := broadcastInDim S128x100000 ![0, 1] bcast_S128x1_S128x100000_0_1 main_v8
  let main_v10 : IVec S128x100000 1 := cmpf .ogt main_v0 main_v9
  let main_v11 : IVec S128x100000 1 := ori main_v7 main_v10
  let main_cst : FVec F S_ .f32 := constant S_ .f32 0x7F800000#32
  let main_v12 : FVec F S128x100000 .f32 := broadcastInDim S128x100000 ![] bcast_S_S128x100000 main_cst
  let main_v13 : IVec S128x100000 1 := cmpf .olt main_arg0 main_v12
  let main_c_0 : IVec S_ 32 := constantI S_ 32 1#32
  let main_v14 : IVec S128 32 := broadcastInDim S128 ![] bcast_S_S128 main_c_0
  let main_v15 : IVec S128 1 := cmpi .sge main_arg1 main_v14
  let main_c_1 : IVec S_ 32 := constantI S_ 32 64#32
  let main_v16 : IVec S128 32 := broadcastInDim S128 ![] bcast_S_S128 main_c_1
  let main_v17 : IVec S128 1 := cmpi .slt main_arg1 main_v16
  let main_v18 : IVec S128 1 := andi main_v15 main_v17
  let main_cst_2 : FVec F S_ .f32 := constant S_ .f32 0x00000000#32
  fn_part1 (F := F) main_arg3 main_v11 main_v13 main_v18 main_cst_2
-- ==== Kernel.lean ====
abbrev S128x100000 : Shape := ⟨2, ![128, 100000]⟩
abbrev S128 : Shape := ⟨1, ![128]⟩
abbrev S128x1 : Shape := ⟨2, ![128, 1]⟩
abbrev S16x100000 : Shape := ⟨2, ![16, 100000]⟩
abbrev S16x1 : Shape := ⟨2, ![16, 1]⟩
abbrev S16x68 : Shape := ⟨2, ![16, 68]⟩
abbrev S16 : Shape := ⟨1, ![16]⟩
abbrev S16x68x1 : Shape := ⟨3, ![16, 68, 1]⟩
abbrev S16x1x68 : Shape := ⟨3, ![16, 1, 68]⟩
abbrev S16x68x68 : Shape := ⟨3, ![16, 68, 68]⟩

abbrev nBuf : Space → Nat
  | .hbm => 7
  | .vmem => 10
  | .smem => 0
  | _ => 0

abbrev bufTy : (tb : Table) → Fin (tcTables nBuf tb) → BufTy
  | .hbm, ⟨0, _⟩ => ⟨S128x100000, .f32⟩
  | .hbm, ⟨1, _⟩ => ⟨S128, .i32⟩
  | .hbm, ⟨2, _⟩ => ⟨S128, .f32⟩
  | .hbm, ⟨3, _⟩ => ⟨S128x100000, .f32⟩
  | .hbm, ⟨4, _⟩ => ⟨S128x1, .i32⟩
  | .hbm, ⟨5, _⟩ => ⟨S128x1, .f32⟩
  | .hbm, ⟨6, _⟩ => ⟨S128x1, .i32⟩
  | .local _ .vmem, ⟨0, _⟩ => ⟨S16x100000, .f32⟩
  | .local _ .vmem, ⟨1, _⟩ => ⟨S16x100000, .f32⟩
  | .local _ .vmem, ⟨2, _⟩ => ⟨S16x1, .i32⟩
  | .local _ .vmem, ⟨3, _⟩ => ⟨S16x1, .i32⟩
  | .local _ .vmem, ⟨4, _⟩ => ⟨S16x1, .f32⟩
  | .local _ .vmem, ⟨5, _⟩ => ⟨S16x1, .f32⟩
  | .local _ .vmem, ⟨6, _⟩ => ⟨S16x100000, .f32⟩
  | .local _ .vmem, ⟨7, _⟩ => ⟨S16x100000, .f32⟩
  | .local _ .vmem, ⟨8, _⟩ => ⟨S16x1, .i32⟩
  | .local _ .vmem, ⟨9, _⟩ => ⟨S16x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_4 : BitVec 32 := 0#32
  let c68_i32 : BitVec 32 := 68#32
  let v6 : BitVec 32 := Scalar.addi c0_i32_4 c68_i32
  let c1_i32 : BitVec 32 := 1#32
  ⟨c0_i32_4, v6, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x100000 : Shape := ⟨2, ![128, 100000]⟩
abbrev S128 : Shape := ⟨1, ![128]⟩
abbrev S_ : Shape := ⟨0, ![]⟩
abbrev S128x100000x1 : Shape := ⟨3, ![128, 100000, 1]⟩
abbrev S1 : Shape := ⟨1, ![1]⟩
abbrev S1x1x1 : Shape := ⟨3, ![1, 1, 1]⟩
abbrev S128x1 : Shape := ⟨2, ![128, 1]⟩
abbrev S128x1x1 : Shape := ⟨3, ![128, 1, 1]⟩

abbrev nBuf : Space → Nat
  | .hbm => 139
  | .vmem => 0
  | .smem => 0
  | _ => 0

abbrev hbmTy0_0 (i : Nat) : BufTy := match i % 128 with
  | 0 => ⟨S128x100000, .f32⟩
  | 1 => ⟨S128, .i32⟩
  | 2 => ⟨S128, .f32⟩
  | 3 => ⟨S128x100000, .f32⟩
  | 4 => ⟨S128x100000, .i32⟩
  | 5 => ⟨S128x100000, .f32⟩
  | 6 => ⟨S128x100000, .i32⟩
  | 7 => ⟨S_, .i32⟩
  | 8 => ⟨S128x100000, .i32⟩
  | 9 => ⟨S128x100000, .i1⟩
  | 10 => ⟨S_, .i32⟩
  | 11 => ⟨S128x100000, .i32⟩
  | 12 => ⟨S128x100000, .i32⟩
  | 13 => ⟨S128x100000, .i32⟩
  | 14 => ⟨S128x100000x1, .i32⟩
  | 15 => ⟨S1, .i32⟩
  | 16 => ⟨S_, .i32⟩
  | 17 => ⟨S128x100000x1, .i32⟩
  | 18 => ⟨S128x100000x1, .i1⟩
  | 19 => ⟨S1x1x1, .i32⟩
  | 20 => ⟨S128x100000x1, .i32⟩
  | 21 => ⟨S128x100000x1, .i1⟩
  | 22 => ⟨S128x100000x1, .i1⟩
  | 23 => ⟨S_, .i1⟩
  | 24 => ⟨S128x100000, .i1⟩
  | 25 => ⟨S128x100000, .f32⟩
  | 26 => ⟨S_, .f32⟩
  | 27 => ⟨S128x100000, .f32⟩
  | 28 => ⟨S128x100000, .f32⟩
  | 29 => ⟨S_, .i32⟩
  | 30 => ⟨S128, .i32⟩
  | 31 => ⟨S128, .i32⟩
  | 32 => ⟨S128x1, .i32⟩
  | 33 => ⟨S_, .i32⟩
  | 34 => ⟨S128x1, .i32⟩
  | 35 => ⟨S128x1, .i1⟩
  | 36 => ⟨S_, .i32⟩
  | 37 => ⟨S128x1, .i32⟩
  | 38 => ⟨S128x1, .i32⟩
  | 39 => ⟨S128x1, .i32⟩
  | 40 => ⟨S128x1x1, .i32⟩
  | 41 => ⟨S1, .i32⟩
  | 42 => ⟨S_, .i32⟩
  | 43 => ⟨S128x1x1, .i32⟩
  | 44 => ⟨S128x1x1, .i1⟩
  | 45 => ⟨S1x1x1, .i32⟩
  | 46 => ⟨S128x1x1, .i32⟩
  | 47 => ⟨S128x1x1, .i1⟩
  | 48 => ⟨S128x1x1, .i1⟩
  | 49 => ⟨S_, .i1⟩
  | 50 => ⟨S128x1, .i1⟩
  | 51 => ⟨S128x1, .f32⟩
  | 52 => ⟨S_, .f32⟩
  | 53 => ⟨S128x1, .f32⟩
  | 54 => ⟨S128x1, .f32⟩
  | 55 => ⟨S128x100000, .f32⟩
  | 56 => ⟨S128x100000, .i1⟩
  | 57 => ⟨S_, .f32⟩
  | 58 => ⟨S_, .f32⟩
  | 59 => ⟨S128x100000, .f32⟩
  | 60 => ⟨S128x100000, .f32⟩
  | 61 => ⟨S_, .f32⟩
  | 62 => ⟨S128, .f32⟩
  | 63 => ⟨S_, .f32⟩
  | 64 => ⟨S128, .f32⟩
  | 65 => ⟨S128, .f32⟩
  | 66 => ⟨S128x1, .f32⟩
  | 67 => ⟨S128x100000, .f32⟩
  | 68 => ⟨S128x100000, .f32⟩
  | 69 => ⟨S128x100000, .f32⟩
  | 70 => ⟨S_, .f32⟩
  | 71 => ⟨S128, .f32⟩
  | 72 => ⟨S128x1, .f32⟩
  | 73 => ⟨S128x100000, .f32⟩
  | 74 => ⟨S128x100000, .f32⟩
  | 75 => ⟨S_, .f32⟩
  | 76 => ⟨S_, .f32⟩
  | 77 => ⟨S128x100000, .f32⟩
  | 78 => ⟨S_, .f32⟩
  | 79 => ⟨S128, .f32⟩
  | 80 => ⟨S128, .f32⟩
  | 81 => ⟨S128x1, .f32⟩
  | 82 => ⟨S128x100000, .f32⟩
  | 83 => ⟨S128x100000, .i1⟩
  | 84 => ⟨S_, .i32⟩
  | 85 => ⟨S1, .i32⟩
  | 86 => ⟨S_, .i1⟩
  | 87 => ⟨S128, .i1⟩
  | 88 => ⟨S128x100000, .i1⟩
  | 89 => ⟨S_, .f32⟩
  | 90 => ⟨S_, .f32⟩
  | 91 => ⟨S128x100000, .f32⟩
  | 92 => ⟨S128x100000, .f32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i1⟩
  | 99 => ⟨S_, .i32⟩
  | 100 => ⟨S128x100000, .i32⟩
  | 101 => ⟨S128x100000, .i32⟩
  | 102 => ⟨S128x100000, .i32⟩
  | 103 => ⟨S128x100000x1, .i32⟩
  | 104 => ⟨S1, .i32⟩
  | 105 => ⟨S_, .i32⟩
  | 106 => ⟨S128x100000x1, .i32⟩
  | 107 => ⟨S128x100000x1, .i1⟩
  | 108 => ⟨S1x1x1, .i32⟩
  | 109 => ⟨S128x100000x1, .i32⟩
  | 110 => ⟨S128x100000x1, .i1⟩
  | 111 => ⟨S128x100000x1, .i1⟩
  | 112 => ⟨S_, .i1⟩
  | 113 => ⟨S128x100000, .i1⟩
  | 114 => ⟨S128x100000, .f32⟩
  | 115 => ⟨S_, .f32⟩
  | 116 => ⟨S128x100000, .f32⟩
  | 117 => ⟨S128x100000, .f32⟩
  | 118 => ⟨S_, .f32⟩
  | 119 => ⟨S128, .f32⟩
  | 120 => ⟨S_, .f32⟩
  | 121 => ⟨S128, .f32⟩
  | 122 => ⟨S128, .f32⟩
  | 123 => ⟨S128x1, .f32⟩
  | 124 => ⟨S128x100000, .f32⟩
  | 125 => ⟨S128x100000, .f32⟩
  | 126 => ⟨S128x100000, .f32⟩
  | 127 => ⟨S_, .f32⟩
  | _ => ⟨S128x100000, .f32⟩

abbrev hbmTy0_1 (i : Nat) : BufTy := match i % 128 with
  | 0 => ⟨S128, .f32⟩
  | 1 => ⟨S128x1, .f32⟩
  | 2 => ⟨S128x100000, .f32⟩
  | 3 => ⟨S128x100000, .f32⟩
  | 4 => ⟨S128x100000, .f32⟩
  | 5 => ⟨S128x100000, .i32⟩
  | 6 => ⟨S_, .f32⟩
  | 7 => ⟨S_, .i32⟩
  | 8 => ⟨S128, .f32⟩
  | 9 => ⟨S128, .i32⟩
  | 10 => ⟨S128x1, .i32⟩
  | _ => ⟨S128x100000, .f32⟩

abbrev hbmTy (i : Nat) : BufTy := match i / 128 with
  | 0 => hbmTy0_0 i
  | 1 => hbmTy0_1 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v1 : Ref sig .tc := ⟨.hbm, 28, rfl⟩
abbrev main_c : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_cst : Ref sig .tc := ⟨.hbm, 52, rfl⟩
abbrev main_call2_v14 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_cst : Ref sig .tc := ⟨.hbm, 57, rfl⟩
abbrev main_call3_v0 : Ref sig .tc := ⟨.hbm, 58, rfl⟩
abbrev main_call3_v1 : Ref sig .tc := ⟨.hbm, 59, rfl⟩
abbrev main_v8 : Ref sig .tc := ⟨.hbm, 60, rfl⟩
abbrev main_cst_0 : Ref sig .tc := ⟨.hbm, 61, rfl⟩
abbrev main_v9 : Ref sig .tc := ⟨.hbm, 62, rfl⟩
abbrev main_cst_1 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_2 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_call4_call0_cst : Ref sig .tc := ⟨.hbm, 75, rfl⟩
abbrev main_call4_call0_v0 : Ref sig .tc := ⟨.hbm, 76, rfl⟩
abbrev main_v20 : Ref sig .tc := ⟨.hbm, 77, rfl⟩
abbrev main_cst_3 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_c_4 : Ref sig .tc := ⟨.hbm, 84, rfl⟩
abbrev main_v26 : Ref sig .tc := ⟨.hbm, 85, rfl⟩
abbrev main_c_5 : Ref sig .tc := ⟨.hbm, 86, rfl⟩
abbrev main_v27 : Ref sig .tc := ⟨.hbm, 87, rfl⟩
abbrev main_v28 : Ref sig .tc := ⟨.hbm, 88, rfl⟩
abbrev main_cst_6 : Ref sig .tc := ⟨.hbm, 89, rfl⟩
abbrev main_call5_v0 : Ref sig .tc := ⟨.hbm, 90, rfl⟩
abbrev main_call5_v1 : Ref sig .tc := ⟨.hbm, 91, rfl⟩
abbrev main_v29 : Ref sig .tc := ⟨.hbm, 92, rfl⟩
abbrev main_call6_v0 : Ref sig .tc := ⟨.hbm, 93, rfl⟩
abbrev main_call6_v1_0 : Ref sig .tc := ⟨.hbm, 94, rfl⟩
abbrev main_v30 : Ref sig .tc := ⟨.hbm, 95, rfl⟩
abbrev main_call7_c : Ref sig .tc := ⟨.hbm, 96, rfl⟩
abbrev main_call7_v0 : Ref sig .tc := ⟨.hbm, 97, rfl⟩
abbrev main_call7_v1 : Ref sig .tc := ⟨.hbm, 98, rfl⟩
abbrev main_call7_c_0 : Ref sig .tc := ⟨.hbm, 99, rfl⟩
abbrev main_call7_v2 : Ref sig .tc := ⟨.hbm, 100, rfl⟩
abbrev main_call7_v3 : Ref sig .tc := ⟨.hbm, 101, rfl⟩
abbrev main_call7_v4 : Ref sig .tc := ⟨.hbm, 102, rfl⟩
abbrev main_call7_v5 : Ref sig .tc := ⟨.hbm, 103, rfl⟩
abbrev main_call7_c_1 : Ref sig .tc := ⟨.hbm, 104, rfl⟩
abbrev main_call7_c_2 : Ref sig .tc := ⟨.hbm, 105, rfl⟩
abbrev main_call7_v6 : Ref sig .tc := ⟨.hbm, 106, rfl⟩
abbrev main_call7_v7 : Ref sig .tc := ⟨.hbm, 107, rfl⟩
abbrev main_call7_v8 : Ref sig .tc := ⟨.hbm, 108, rfl⟩
abbrev main_call7_v9 : Ref sig .tc := ⟨.hbm, 109, rfl⟩
abbrev main_call7_v10 : Ref sig .tc := ⟨.hbm, 110, rfl⟩
abbrev main_call7_v11 : Ref sig .tc := ⟨.hbm, 111, rfl⟩
abbrev main_call7_c_3 : Ref sig .tc := ⟨.hbm, 112, rfl⟩
abbrev main_call7_v12 : Ref sig .tc := ⟨.hbm, 113, rfl⟩
abbrev main_call7_v13 : Ref sig .tc := ⟨.hbm, 114, rfl⟩
abbrev main_call7_cst : Ref sig .tc := ⟨.hbm, 115, rfl⟩
abbrev main_call7_v14 : Ref sig .tc := ⟨.hbm, 116, rfl⟩
abbrev main_v31 : Ref sig .tc := ⟨.hbm, 117, rfl⟩
abbrev main_cst_7 : Ref sig .tc := ⟨.hbm, 118, rfl⟩
abbrev main_v32 : Ref sig .tc := ⟨.hbm, 119, rfl⟩
abbrev main_cst_8 : Ref sig .tc := ⟨.hbm, 120, rfl⟩
abbrev main_v33 : Ref sig .tc := ⟨.hbm, 121, rfl⟩
abbrev main_v34 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_cst_9 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_call8_v0 : Ref sig .tc := ⟨.hbm, 133, rfl⟩
abbrev main_call8_cst : Ref sig .tc := ⟨.hbm, 134, rfl⟩
abbrev main_call8_c : Ref sig .tc := ⟨.hbm, 135, rfl⟩
abbrev main_call8_v1_0 : Ref sig .tc := ⟨.hbm, 136, rfl⟩
abbrev main_v44 : Ref sig .tc := ⟨.hbm, 137, rfl⟩
abbrev main_v45 : Ref sig .tc := ⟨.hbm, 138, rfl⟩

abbrev nD : Nat := 1
abbrev τ : Topo := Topo.v7x

variable {F : FTy → Type} [FloatOps F]
-- ==== Proof.Extract.lean ====
/- Taking the greatest entry out of a row, again and again: what the values and places of the successive maxima say
   about the row. Nothing here mentions a program. -/
module

public import Mathlib.Data.EReal.Basic
public import Mathlib.Data.EReal.Operations
public import Mathlib.Data.Finset.Max
public import Mathlib.Order.Interval.Finset.Fin
public import Mathlib.Algebra.BigOperators.Group.Finset.Basic
public import Mathlib.Algebra.BigOperators.Ring.Finset

@[expose] public section

noncomputable section

namespace Cert.Rows

open Finset

variable {n : ℕ} [NeZero n]

/-- The greatest entry of a row. -/
def top (w : Fin n → EReal) : EReal := univ.sup w

theorem le_top (w : Fin n → EReal) (i : Fin n) : w i ≤ top w := le_sup (f := w) (mem_univ i)

theorem exists_top (w : Fin n → EReal) : ∃ i, w i = top w := by
  obtain ⟨i, -, h⟩ := exists_mem_eq_sup (s := (univ : Finset (Fin n))) ⟨0, mem_univ _⟩ w
  exact ⟨i, h.symm⟩

/-- A value that is an entry and bounds every entry is the greatest entry. -/
theorem eq_top {w : Fin n → EReal} {v : EReal} (h : ∃ i, w i = v) (hv : ∀ i, w i ≤ v) : v = top w := by
  obtain ⟨i, hi⟩ := h
  exact le_antisymm (hi ▸ le_top w i) (Finset.sup_le fun j _ => hv j)

/-- The first place that holds the greatest entry. -/
def pick (w : Fin n → EReal) : Fin n :=
  (univ.filter fun i => w i = top w).min' (by
    obtain ⟨i, hi⟩ := exists_top w
    exact ⟨i, by simp [hi]⟩)

theorem pick_val (w : Fin n → EReal) : w (pick w) = top w := by
  have h := min'_mem (univ.filter fun i => w i = top w) (by
    obtain ⟨i, hi⟩ := exists_top w
    exact ⟨i, by simp [hi]⟩)
  exact (mem_filter.1 h).2

theorem pick_le {w : Fin n → EReal} {i : Fin n} (h : w i = top w) : pick w ≤ i :=
  min'_le _ _ (by simp [h])

/-- A place of the greatest entry before every other such place is the first one. -/
theorem eq_pick {w : Fin n → EReal} {i : Fin n} (h : w i = top w) (hi : ∀ j, w j = top w → i ≤ j) : i = pick w :=
  le_antisymm (hi _ (pick_val w)) (pick_le h)

/-- The row with its first greatest entry replaced by −∞. -/
def strike (w : Fin n → EReal) : Fin n → EReal := fun i => if i = pick w then ⊥ else w i

variable (x : Fin n → EReal)

/-- The row after `t` rounds. -/
def rem : ℕ → Fin n → EReal
  | 0 => x
  | t + 1 => strike (rem t)

/-- The value round `t` takes out. -/
def val (t : ℕ) : EReal := top (rem x t)

/-- The place round `t` takes it from. -/
def pos (t : ℕ) : Fin n := pick (rem x t)

theorem rem_pos (t : ℕ) : rem x t (pos x t) = val x t := pick_val _

theorem rem_le (t : ℕ) (i : Fin n) : rem x t i ≤ val x t := le_top _ i

/-- What is left after `t` rounds: the row off the places taken. -/
theorem rem_eq (t : ℕ) (i : Fin n) : rem x t i = if ∃ s < t, pos x s = i then ⊥ else x i := by
  induction t with
  | zero => simp [rem]
  | succ t ih =>
    rw [rem, strike]
    by_cases h : i = pick (rem x t)
    · rw [if_pos h, if_pos ⟨t, Nat.lt_succ_self t, h.symm⟩]
    · rw [if_neg h, ih]
      by_cases h' : ∃ s < t, pos x s = i
      · obtain ⟨s, hs, hi⟩ := h'
        rw [if_pos ⟨s, hs, hi⟩, if_pos ⟨s, Nat.lt_succ_of_lt hs, hi⟩]
      · rw [if_neg h', if_neg]
        rintro ⟨s, hs, hi⟩
        rcases Nat.lt_succ_iff_lt_or_eq.1 hs with hs | rfl
        · exact h' ⟨s, hs, hi⟩
        · exact h hi.symm

theorem val_zero : val x 0 = top x := rfl

/-- The values taken do not increase. -/
theorem val_anti : Antitone (val x) := by
  refine antitone_nat_of_succ_le fun t => ?_
  show univ.sup (strike (rem x t)) ≤ val x t
  refine Finset.sup_le fun i _ => ?_
  unfold strike
  split
  · exact bot_le
  · exact rem_le x t i

/-- A value above −∞ is taken from a new place, where the row holds it. -/
theorem new_of_bot_lt {t : ℕ} (h : ⊥ < val x t) : (∀ s < t, pos x s ≠ pos x t) ∧ x (pos x t) = val x t := by
  have e := rem_pos x t
  rw [rem_eq] at e
  by_cases h' : ∃ s < t, pos x s = pos x t
  · rw [if_pos h'] at e
    exact absurd (e ▸ h) (lt_irrefl _)
  · rw [if_neg h'] at e
    exact ⟨fun s hs hp => h' ⟨s, hs, hp⟩, e⟩

/-- A place not taken in `t` rounds holds at most the next value. -/
theorem le_val_of_not {t : ℕ} {i : Fin n} (h : ¬ ∃ s < t, pos x s = i) : x i ≤ val x t := by
  have e := rem_le x t i
  rwa [rem_eq, if_neg h] at e

/-- A place taken in `t` rounds was taken by a round that took its entry. -/
theorem exists_slot {t : ℕ} {i : Fin n} (h : ∃ s < t, pos x s = i) : ∃ s < t, pos x s = i ∧ val x s = x i := by
  induction t with
  | zero => obtain ⟨s, hs, -⟩ := h; exact absurd hs (Nat.not_lt_zero s)
  | succ t ih =>
    by_cases h' : ∃ s < t, pos x s = i
    · obtain ⟨s, hs, e⟩ := ih h'
      exact ⟨s, Nat.lt_succ_of_lt hs, e⟩
    · obtain ⟨s, hs, hi⟩ := h
      rcases Nat.lt_succ_iff_lt_or_eq.1 hs with hs | rfl
      · exact absurd ⟨s, hs, hi⟩ h'
      · refine ⟨s, hs, hi, ?_⟩
        have e := rem_pos x s
        rw [rem_eq, hi, if_neg h'] at e
        exact e.symm

/-- Rounds with values above −∞ take different places. -/
theorem pos_inj {s t : ℕ} (hs : ⊥ < val x s) (ht : ⊥ < val x t) (h : pos x s = pos x t) : s = t := by
  rcases lt_trichotomy s t with hl | rfl | hl
  · exact absurd h ((new_of_bot_lt x ht).1 s hl)
  · rfl
  · exact absurd h.symm ((new_of_bot_lt x hs).1 t hl)

/-! ## The k-th greatest entry -/

/-- `θ` is the `k`-th greatest entry: at least `k` entries are `θ` or more, fewer than `k` are more. -/
def IsKth (k : ℕ) (θ : EReal) : Prop :=
  k ≤ (univ.filter fun i => θ ≤ x i).card ∧ (univ.filter fun i => θ < x i).card < k

/-- There is only one `k`-th greatest entry. -/
theorem IsKth.unique {k : ℕ} {θ θ' : EReal} (h : IsKth x k θ) (h' : IsKth x k θ') : θ = θ' := by
  have key : ∀ {a b : EReal}, IsKth x k a → IsKth x k b → ¬ a < b := fun {a b} ha hb hab => by
    have hsub : (univ.filter fun i => b ≤ x i) ⊆ univ.filter fun i => a < x i := fun i hi => by
      simp only [mem_filter, mem_univ, true_and] at hi ⊢
      exact lt_of_lt_of_le hab hi
    exact absurd (card_le_card hsub) (not_le.2 (lt_of_lt_of_le ha.2 hb.1))
  exact le_antisymm (not_lt.1 (key h' h)) (not_lt.1 (key h h'))

/-- Round `t` takes the `t + 1`-st greatest entry. -/
theorem isKth_val {t : ℕ} (ht : t < n) : IsKth x (t + 1) (val x t) := by
  constructor
  · rcases eq_bot_or_bot_lt (val x t) with h | h
    · rw [h]
      simp only [bot_le, filter_true, card_univ, Fintype.card_fin]
      exact ht
    · have hb : ∀ s ∈ range (t + 1), ⊥ < val x s := fun s hs =>
        lt_of_lt_of_le h (val_anti x (Nat.lt_succ_iff.1 (mem_range.1 hs)))
      have hc := card_image_of_injOn (s := range (t + 1)) (f := pos x)
        fun a ha b hb' e => pos_inj x (hb a ha) (hb b hb') e
      rw [card_range] at hc
      rw [← hc]
      refine card_le_card fun i hi => ?_
      obtain ⟨s, hs, rfl⟩ := mem_image.1 hi
      simp only [mem_filter, mem_univ, true_and]
      rw [(new_of_bot_lt x (hb s hs)).2]
      exact val_anti x (Nat.lt_succ_iff.1 (mem_range.1 hs))
  · have hsub : (univ.filter fun i => val x t < x i) ⊆ (range t).image (pos x) := fun i hi => by
      simp only [mem_filter, mem_univ, true_and] at hi
      by_contra hn
      refine absurd (le_val_of_not x (t := t) (i := i) ?_) (not_le.2 hi)
      rintro ⟨s, hs, e⟩
      exact hn (mem_image.2 ⟨s, mem_range.2 hs, e⟩)
    exact Nat.lt_succ_of_le ((card_le_card hsub).trans (card_image_le.trans (card_range t).le))

/-- In a sorted row the `k`-th greatest entry is the `k`-th from the end. -/
theorem isKth_sorted {σ : Equiv.Perm (Fin n)} (hσ : Monotone (x ∘ σ)) {k : ℕ} (hk : 1 ≤ k) (j : Fin n)
    (hj : j.val + k = n) : IsKth x k (x (σ j)) := by
  constructor
  · have hsub : (univ.filter fun i => j ≤ i).map σ.toEmbedding ⊆ univ.filter fun i => x (σ j) ≤ x i := fun i hi => by
      obtain ⟨a, ha, rfl⟩ := mem_map.1 hi
      simp only [mem_filter, mem_univ, true_and] at ha ⊢
      exact hσ ha
    have hc := card_le_card hsub
    rw [card_map] at hc
    refine le_trans ?_ hc
    have : (univ.filter fun i : Fin n => j ≤ i) = Ici j := by ext; simp
    rw [this, Fin.card_Ici]
    omega
  · have hsub : (univ.filter fun i => x (σ j) < x i) ⊆ (univ.filter fun i => j < i).map σ.toEmbedding := fun i hi => by
      simp only [mem_filter, mem_univ, true_and] at hi
      refine mem_map.2 ⟨σ.symm i, ?_, by simp⟩
      simp only [mem_filter, mem_univ, true_and]
      by_contra hn
      have := hσ (not_lt.1 hn)
      simp only [Function.comp_apply, Equiv.apply_symm_apply] at this
      exact absurd hi (not_lt.2 this)
    have hc := card_le_card hsub
    rw [card_map] at hc
    refine lt_of_le_of_lt hc ?_
    have : (univ.filter fun i : Fin n => j < i) = Ioi j := by ext; simp
    rw [this, Fin.card_Ioi]
    omega

/-! ## The entries at or above a threshold and the rounds that take them -/

variable {x} {θ : EReal} {C : ℕ}

/-- When at most `C` entries reach the threshold, each of them is taken, as itself, by one of the first `C` rounds. -/
theorem exists_round (hθ : ⊥ < θ) (hC : (univ.filter fun i => θ ≤ x i).card ≤ C) {i : Fin n} (hi : θ ≤ x i) :
    ∃ s < C, pos x s = i ∧ val x s = x i := by
  by_contra hn
  have hni : ¬ ∃ s < C, pos x s = i := fun h => hn (exists_slot x h)
  have hv : θ ≤ val x C := hi.trans (le_val_of_not x hni)
  have hb : ∀ s ∈ range (C + 1), θ ≤ val x s := fun s hs =>
    hv.trans (val_anti x (Nat.lt_succ_iff.1 (mem_range.1 hs)))
  have hc := card_image_of_injOn (s := range (C + 1)) (f := pos x)
    fun a ha b hb' e => pos_inj x (lt_of_lt_of_le hθ (hb a ha)) (lt_of_lt_of_le hθ (hb b hb')) e
  rw [card_range] at hc
  have hsub : (range (C + 1)).image (pos x) ⊆ univ.filter fun i => θ ≤ x i := fun j hj => by
    obtain ⟨s, hs, rfl⟩ := mem_image.1 hj
    simp only [mem_filter, mem_univ, true_and]
    rw [(new_of_bot_lt x (lt_of_lt_of_le hθ (hb s hs))).2]
    exact hb s hs
  have := card_le_card hsub
  omega

/-- A round whose value reaches the threshold took an entry that does. -/
theorem x_pos (hθ : ⊥ < θ) {s : ℕ} (hs : θ ≤ val x s) : x (pos x s) = val x s :=
  (new_of_bot_lt x (lt_of_lt_of_le hθ hs)).2

/-- A sum over the rounds whose value reaches the threshold is the sum over the entries that do. -/
theorem sum_rounds (hθ : ⊥ < θ) (hC : (univ.filter fun i => θ ≤ x i).card ≤ C) (g : Fin n → EReal)
    (hg : ∀ i, ¬ θ ≤ x i → g i = 0) :
    (∑ s : Fin C, if θ ≤ val x s then g (pos x s) else 0) = ∑ i, g i := by
  classical
  rw [← sum_filter]
  rw [← sum_subset (subset_univ (univ.filter fun i => θ ≤ x i)) fun i _ hi => hg i (by simpa using hi)]
  refine sum_bij (fun s _ => pos x s) ?_ ?_ ?_ ?_
  · intro s hs
    simp only [mem_filter, mem_univ, true_and] at hs ⊢
    rw [x_pos hθ hs]
    exact hs
  · intro a ha b hb e
    simp only [mem_filter, mem_univ, true_and] at ha hb
    exact Fin.ext (pos_inj x (lt_of_lt_of_le hθ ha) (lt_of_lt_of_le hθ hb) e)
  · intro i hi
    simp only [mem_filter, mem_univ, true_and] at hi
    obtain ⟨s, hs, e, hv⟩ := exists_round hθ hC hi
    exact ⟨⟨s, hs⟩, by simp [hv, hi], e⟩
  · intro s _; rfl

end Cert.Rows

end
-- ==== Proof.Reductions.lean ====
/- Folds over a row: the greatest and the least of a row of extended reals, and the first or last place among those a
   mask selects. Nothing here mentions a program. -/
module

public import proofs.«01_k».proof.Proof.Extract
public import Idealize.ShloMosaic.PureOps.Ideal.Laws
public import Idealize.ShloMosaic.Lib.ValueIdx
public import Idealize.ShloMosaic.Lib.Pointwise
public import Idealize.ShloMosaic.Lib.IdealHost
public import Idealize.ShloMosaic.Lib.SortNet.Extract

@[expose] public section

noncomputable section

namespace Cert.Rows

open Finset Idealize.ShloMosaic
open Idealize.ShloMosaic.ValueIdx hiding ix1 ix2 ix3
open scoped Classical

/-! ## Constants and one-bit words -/

theorem word_neg_inf : Ideal.ofBits .f32 0xFF800000#32 = ⊥ := by
  simp [Ideal.ofBits, Ideal.ieee]

theorem word_pos_inf : Ideal.ofBits .f32 0x7F800000#32 = ⊤ := by
  simp [Ideal.ofBits, Ideal.ieee]

theorem andi_one (a b : BitVec 1) : IntOp.andi a b = 1#1 ↔ a = 1#1 ∧ b = 1#1 := by
  revert a b; decide

theorem ori_one (a b : BitVec 1) : IntOp.ori a b = 1#1 ↔ a = 1#1 ∨ b = 1#1 := by
  revert a b; decide

theorem xori_one (a : BitVec 1) : IntOp.xori a 1#1 = 1#1 ↔ ¬ a = 1#1 := by
  revert a; decide

theorem ofBool_one (P : Prop) [Decidable P] : BitVec.ofBool (decide P) = 1#1 ↔ P := by
  by_cases h : P <;> simp [h]

theorem eq_one (x y : EReal) : Ideal.cmp .oeq x y = 1#1 ↔ x = y := ofBool_one _
theorem gt_one (x y : EReal) : Ideal.cmp .ogt x y = 1#1 ↔ y < x := ofBool_one _
theorem ge_one (x y : EReal) : Ideal.cmp .oge x y = 1#1 ↔ y ≤ x := ofBool_one _
theorem lt_one (x y : EReal) : Ideal.cmp .olt x y = 1#1 ↔ x < y := ofBool_one _
theorem le_one (x y : EReal) : Ideal.cmp .ole x y = 1#1 ↔ x ≤ y := ofBool_one _

/-- A selection by a bit that stands for a proposition. -/
theorem select_of {α : Type} {c : BitVec 1} {P : Prop} [Decidable P] (h : c = 1#1 ↔ P) (a b : α) :
    Scalar.select c a b = if P then a else b := by
  by_cases hP : P
  · rw [if_pos hP, h.2 hP, select_one]
  · rw [if_neg hP, eq_zero_of_ne_one fun hc => hP (h.1 hc), select_zero]

/-! ## Places as words -/

/-- The word of a place. -/
def word {n : ℕ} (i : Fin n) : BitVec 32 := BitVec.ofNat 32 i.val

theorem word_toNat {n : ℕ} (hn : n ≤ 100000) (i : Fin n) : (word i).toNat = i.val := by
  rw [word, BitVec.toNat_ofNat, Nat.mod_eq_of_lt (lt_of_lt_of_le i.isLt (hn.trans (by norm_num)))]

theorem word_toInt {n : ℕ} (hn : n ≤ 100000) (i : Fin n) : (word i).toInt = i.val := by
  have h := i.isLt
  rw [BitVec.toInt_eq_toNat_of_lt (by rw [word_toNat hn]; omega), word_toNat hn]

theorem word_inj {n : ℕ} (hn : n ≤ 100000) {i j : Fin n} : word i = word j ↔ i = j := by
  refine ⟨fun h => Fin.ext ?_, fun h => h ▸ rfl⟩
  rw [← word_toNat hn i, h, word_toNat hn]

theorem word_sle {n : ℕ} (hn : n ≤ 100000) (i j : Fin n) : IntOp.cmpi .sle (word i) (word j) = 1#1 ↔ i ≤ j := by
  show BitVec.ofBool ((word i).sle (word j)) = 1#1 ↔ _
  rw [BitVec.sle_eq_decide, ofBool_one, word_toInt hn, word_toInt hn, Fin.le_def]
  exact Int.ofNat_le

theorem word_sge {n : ℕ} (hn : n ≤ 100000) (i j : Fin n) : IntOp.cmpi .sge (word i) (word j) = 1#1 ↔ j ≤ i :=
  word_sle hn j i

theorem eqi_one {w : ℕ} (a b : BitVec w) : IntOp.cmpi .eq a b = 1#1 ↔ a = b := by
  show BitVec.ofBool (decide (a = b)) = 1#1 ↔ _
  exact ofBool_one _

theorem slti_one (a b : BitVec 32) : IntOp.cmpi .slt a b = 1#1 ↔ a.toInt < b.toInt := by
  show BitVec.ofBool (a.slt b) = 1#1 ↔ _
  rw [BitVec.slt_eq_decide, ofBool_one]

/-! ## Folds -/

variable {n C : ℕ}

/-- A fold of the maximum from −∞ is the maximum. -/
theorem fold_max (f : Fin n → EReal) : univ.fold max (Ideal.ofBits .f32 0xFF800000#32) f = top f := by
  rw [show Ideal.ofBits .f32 0xFF800000#32 = (⊥ : EReal) from word_neg_inf]
  rfl

/-- A fold of the minimum from +∞ is the minimum. -/
theorem fold_min (f : Fin n → EReal) : univ.fold min (Ideal.ofBits .f32 0x7F800000#32) f = univ.inf f := by
  rw [show Ideal.ofBits .f32 0x7F800000#32 = (⊤ : EReal) from word_pos_inf]
  rfl

/-- A fold of the signed minimum is one of the words met, or the start, and is at most each. -/
theorem fold_minsi_spec {ι : Type} (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (notMem_empty i), Or.inl fold_empty⟩
  | insert a s has ih =>
    obtain ⟨h2, h3⟩ := ih
    rw [fold_insert has]
    have hm := SortNet.toInt_minsi (g a) (s.fold IntOp.minsi init g)
    refine ⟨fun i hi => ?_, ?_⟩
    · rw [hm]
      rcases mem_insert.1 hi with rfl | hi
      · exact min_le_left _ _
      · exact (min_le_right _ _).trans (h2 i hi)
    · rcases min_choice (g a).toInt (s.fold IntOp.minsi init g).toInt with h | h
      · exact Or.inr ⟨a, mem_insert_self a s, BitVec.eq_of_toInt_eq (hm.trans h)⟩
      · have e := BitVec.eq_of_toInt_eq (hm.trans h)
        rcases h3 with h3 | ⟨i, hi, h3⟩
        · exact Or.inl (e.trans h3)
        · exact Or.inr ⟨i, mem_insert_of_mem hi, e.trans h3⟩

/-- The signed minimum of words is one of them and at most each, when some word is below the start. -/
theorem fold_minsi (g : Fin C → BitVec 32) (hne : ∃ i, (g i).toInt < 2147483647) :
    (∀ i, (univ.fold IntOp.minsi 2147483647#32 g).toInt ≤ (g i).toInt) ∧
      ∃ i, univ.fold IntOp.minsi 2147483647#32 g = g i := by
  obtain ⟨h1, h2⟩ := fold_minsi_spec g univ 2147483647#32
  refine ⟨fun i => h1 i (mem_univ i), ?_⟩
  rcases h2 with h2 | ⟨i, -, h2⟩
  · obtain ⟨i, hi⟩ := hne
    have h3 := h1 i (mem_univ i)
    rw [h2, show (2147483647#32 : BitVec 32).toInt = 2147483647 from by decide] at h3
    omega
  · exact ⟨i, h2⟩

/-- The signed maximum of words is one of them and at least each, when some word is above the start. -/
theorem fold_maxsi (g : Fin C → BitVec 32) (hne : ∃ i, -2147483648 < (g i).toInt) :
    (∀ i, (g i).toInt ≤ (univ.fold IntOp.maxsi 2147483648#32 g).toInt) ∧
      ∃ i, univ.fold IntOp.maxsi 2147483648#32 g = g i := by
  obtain ⟨-, h1, h2⟩ := SortNet.fold_maxsi_spec g univ 2147483648#32
  refine ⟨fun i => h1 i (mem_univ i), ?_⟩
  rcases h2 with h2 | ⟨i, -, h2⟩
  · obtain ⟨i, hi⟩ := hne
    have h3 := h1 i (mem_univ i)
    rw [h2, show (2147483648#32 : BitVec 32).toInt = -2147483648 from by decide] at h3
    omega
  · exact ⟨i, h2⟩

/-- The first of the places a mask selects: the signed minimum of the places' words, with 100000 off the mask. -/
theorem fold_first (hn : n ≤ 100000) (g : Fin C → BitVec 32) (P : Fin C → Prop) [DecidablePred P] (a : Fin C → Fin n)
    (hs : ∀ s, g s = if P s then word (a s) else 100000#32) (hP : ∃ s, P s) :
    ∃ s, P s ∧ univ.fold IntOp.minsi 2147483647#32 g = word (a s) ∧ ∀ s', P s' → a s ≤ a s' := by
  obtain ⟨o, ho⟩ := hP
  have h0 : (100000#32 : BitVec 32).toInt = 100000 := by decide
  have hlt : ∀ i : Fin n, (i.val : Int) < 100000 := fun i => by have := i.isLt; omega
  obtain ⟨h1, s, h2⟩ := fold_minsi g ⟨o, by
    rw [hs, if_pos ho, word_toInt hn]; have := hlt (a o); omega⟩
  have hPs : P s := by
    by_contra hn'
    have h3 := h1 o
    rw [h2, hs, if_neg hn', hs, if_pos ho, word_toInt hn, h0] at h3
    have := hlt (a o)
    omega
  have e : g s = word (a s) := by rw [hs, if_pos hPs]
  refine ⟨s, hPs, h2.trans e, fun s' hs' => ?_⟩
  have h3 := h1 s'
  rw [h2, e, hs, if_pos hs', word_toInt hn, word_toInt hn] at h3
  exact Fin.le_def.2 (by omega)

/-- With nothing selected the signed minimum is 100000. -/
theorem fold_first_none [NeZero C] (g : Fin C → BitVec 32) (hs : ∀ s, g s = 100000#32) :
    univ.fold IntOp.minsi 2147483647#32 g = 100000#32 := by
  obtain ⟨-, s, h2⟩ := fold_minsi g ⟨0, by rw [hs]; decide⟩
  rw [h2, hs]

/-- The last of the places a mask selects: the signed maximum of the places' words, with −1 off the mask. -/
theorem fold_last (hn : n ≤ 100000) (g : Fin C → BitVec 32) (P : Fin C → Prop) [DecidablePred P] (a : Fin C → Fin n)
    (hs : ∀ s, g s = if P s then word (a s) else 4294967295#32) (hP : ∃ s, P s) :
    ∃ s, P s ∧ univ.fold IntOp.maxsi 2147483648#32 g = word (a s) ∧ ∀ s', P s' → a s' ≤ a s := by
  obtain ⟨o, ho⟩ := hP
  have h0 : (4294967295#32 : BitVec 32).toInt = -1 := by decide
  obtain ⟨h1, s, h2⟩ := fold_maxsi g ⟨o, by rw [hs, if_pos ho, word_toInt hn]; omega⟩
  have hPs : P s := by
    by_contra hn'
    have h3 := h1 o
    rw [h2, hs, if_pos ho, hs, if_neg hn', word_toInt hn, h0] at h3
    omega
  have e : g s = word (a s) := by rw [hs, if_pos hPs]
  refine ⟨s, hPs, h2.trans e, fun s' hs' => ?_⟩
  have h3 := h1 s'
  rw [h2, e, hs, if_pos hs', word_toInt hn, word_toInt hn] at h3
  exact Fin.le_def.2 (by omega)

end Cert.Rows

end
-- ==== Proof.KernelLoop.lean ====
/- The kernel's loop, read along one row of a block: a round takes the greatest remaining entry and strikes it off, so after
   all rounds slot `s` holds the `s`-th greatest entry and the word of its place. -/
module

public import proofs.«01_k».proof.Proof.Reductions
public import proofs.«01_k».proof.Proof.Gen.KernelIdeal.Skeleton

@[expose] public section

noncomputable section

namespace Cert.KernelIdeal.Rows

open Finset Idealize.ShloMosaic Cert.KernelIdeal Cert.KernelIdeal.Gen Cert.Rows
open scoped Classical

/-- One row of a block of logits. -/
def row (w : Vec Ideal S16x100000 .f32) (r : Fin 16) (i : Fin 100000) : EReal := w (ix2 r i)

variable (w : Vec Ideal S16x100000 .f32) (r : Fin 16)

theorem pay3_at : k0_pay3 w (ix1 r) = top (row w r) := by
  unfold k0_pay3
  pointwise
  exact fold_max _

/-- The place a round takes is the first that holds the row's maximum. -/
theorem pay4_at : k0_pay4 w (ix1 r) = word (pick (row w r)) := by
  unfold k0_pay4
  pointwise
  rw [pay3_at]
  obtain ⟨s, hs, e, hm⟩ := fold_first (n := 100000) le_rfl
    (fun i => if w (ix2 r i) = top (row w r) then BitVec.ofNat 32 i.val else 100000#32) (fun i => row w r i = top (row w r)) id
    (fun i => rfl) (exists_top _)
  refine Eq.trans ?_ (e.trans (congrArg word (eq_pick hs hm)))
  rfl

/-- A round strikes the place it takes off the row. -/
theorem pay5_at : row (k0_pay5 w) r = strike (row w r) := by
  funext i
  show k0_pay5 w (ix2 r i) = _
  unfold k0_pay5
  pointwise
  rw [pay4_at, word_neg_inf]
  refine (select_of ((eqi_one _ _).trans (word_inj (n := 100000) (i := i) (j := pick (row w r)) le_rfl)) _ _).trans ?_
  rw [strike]
  congr

theorem trip_word (t : Fin k0_t1_loop.trips) (s : Fin 68) :
    IntOp.cmpi .eq (BitVec.ofNat 32 s.val) (Scf.iv 0#32 1#32 t.val) = 1#1 ↔ s.val = t.val := by
  have ht : t.val < 68 := t.isLt
  have e : Scf.iv 0#32 1#32 t.val = word (⟨t.val, ht⟩ : Fin 68) := by simp [Scf.iv, word]
  rw [e]
  exact ((eqi_one _ _).trans (word_inj (n := 68) (by norm_num))).trans Fin.ext_iff

/-- A round writes the maximum into its slot. -/
theorem pay7_at (t : Fin k0_t1_loop.trips) (v : FVec Ideal S16x68 .f32) (s : Fin 68) :
    k0_pay7 t w v (ix2 r s) = if s.val = t.val then top (row w r) else v (ix2 r s) := by
  unfold k0_pay7 k0_pay6
  pointwise
  rw [pay3_at, select_of (trip_word t s)]

/-- A round writes the place into its slot. -/
theorem pay8_at (t : Fin k0_t1_loop.trips) (v : IVec S16x68 32) (s : Fin 68) :
    k0_pay8 t w v (ix2 r s) = if s.val = t.val then word (pick (row w r)) else v (ix2 r s) := by
  unfold k0_pay8 k0_pay6
  pointwise
  rw [pay4_at, select_of (trip_word t s)]

/-- What the loop carries: the remaining logits, the values taken and the places taken. -/
abbrev Carry := Vec Ideal S16x100000 .f32 × FVec Ideal S16x68 .f32 × IVec S16x68 32

/-- One round. -/
def round (t : Fin k0_t1_loop.trips) (a : Carry) : Carry := (k0_pay5 a.1, k0_pay7 t a.1 a.2.1, k0_pay8 t a.1 a.2.2)

/-- What holds of a row before round `t`. -/
def Taken (x : Fin 100000 → EReal) (t : ℕ) (a : Carry) : Prop :=
  row a.1 r = rem x t ∧ ∀ s : Fin 68, s.val < t → a.2.1 (ix2 r s) = val x s ∧ a.2.2 (ix2 r s) = word (pos x s)

variable {r}

theorem round_taken {x : Fin 100000 → EReal} (t : Fin k0_t1_loop.trips) {a : Carry} (h : Taken r x t.val a) :
    Taken r x (t.val + 1) (round t a) := by
  unfold round Taken
  dsimp only
  refine ⟨by rw [rem, ← h.1, pay5_at], fun s hs => ?_⟩
  rw [pay7_at, pay8_at, h.1]
  by_cases e : s.val = t.val
  · rw [if_pos e, if_pos e, e]
    exact ⟨rfl, rfl⟩
  · rw [if_neg e, if_neg e]
    exact h.2 s (by omega)

/-- A fold over all trips carries an invariant from the first to the last. -/
theorem foldl_trips {α : Type} {n : ℕ} (g : Fin n → α → α) (I : ℕ → α → Prop) (hg : ∀ (t : Fin n) a, I t.val a → I (t.val + 1) (g t a))
    (a : α) (h : I 0 a) : I n ((List.finRange n).foldl (fun acc k => g k acc) a) := by
  induction n generalizing a I with
  | zero => simpa using h
  | succ n ih =>
    rw [List.finRange_succ, List.foldl_cons, List.foldl_map]
    exact ih (fun t => g t.succ) (fun t => I (t + 1)) (fun t a ha => hg t.succ a ha) (g 0 a) (hg 0 a h)

/-- After the loop every slot holds its value and its place. -/
theorem loop_taken (x0 : Vec Ideal S16x100000 .f32) (v : FVec Ideal S16x68 .f32) (k : IVec S16x68 32) (r : Fin 16) (s : Fin 68) :
    (Scf.fold round (x0, v, k)).2.1 (ix2 r s) = val (row x0 r) s ∧
      (Scf.fold round (x0, v, k)).2.2 (ix2 r s) = word (pos (row x0 r) s) := by
  have h := foldl_trips round (Taken r (row x0 r)) (fun t a h => round_taken t h) (x0, v, k)
    ⟨funext fun _ => rfl, fun s hs => absurd hs (Nat.not_lt_zero _)⟩
  rw [Scf.fold_eq]
  exact h.2 s s.isLt

end Cert.KernelIdeal.Rows

end
-- ==== Proof.Sampler.lean ====
/- The sampler of one row over the extended reals: which entries are kept, with what score, and the place answered;
   with the facts about it that both programs' proofs use. Nothing here mentions a program. -/
module

public import proofs.«01_k».proof.Proof.Extract
public import Idealize.ShloMosaic.PureOps.Ideal

@[expose] public section

noncomputable section

namespace Cert.Rows

open Finset Idealize.ShloMosaic
open scoped Classical

variable {n : ℕ} [NeZero n]

/-- The order the tokens are cut in: by logit, then by place. -/
def LexLe (x : Fin n → EReal) (i j : Fin n) : Prop := x i < x j ∨ (x i = x j ∧ i ≤ j)

section Defs

variable (x : Fin n → EReal) (θ b : EReal) (q : Fin n → EReal)

/-- The unnormalised weight of an entry after the first cut. -/
def e1 (i : Fin n) : EReal := if θ ≤ x i then Ideal.exp (x i - top x) else 0

/-- The probability of an entry after the first cut. -/
def prob (i : Fin n) : EReal := Ideal.div (e1 x θ i) (∑ j, e1 x θ j)

/-- The probability of everything up to an entry, in the order of the cut. -/
def cum (i : Fin n) : EReal := ∑ j, if LexLe x j i then prob x θ j else 0

/-- The entry after every other in the order of the cut. -/
def IsLast (i : Fin n) : Prop := ∀ j, LexLe x j i

/-- The entries both cuts keep. -/
def Kept (i : Fin n) : Prop := θ ≤ x i ∧ (b < cum x θ i ∨ IsLast x i)

/-- The unnormalised weight of an entry after both cuts. -/
def e2 (i : Fin n) : EReal := if Kept x θ b i then Ideal.exp (x i - top x) else 0

/-- The score of an entry: its probability after both cuts over its noise. -/
def score (i : Fin n) : EReal := Ideal.div (Ideal.div (e2 x θ b i) (∑ j, e2 x θ b j)) (q i)

end Defs

theorem LexLe.refl (x : Fin n → EReal) (i : Fin n) : LexLe x i i := Or.inr ⟨rfl, le_rfl⟩

theorem LexLe.trans {x : Fin n → EReal} {i j l : Fin n} (h : LexLe x i j) (h' : LexLe x j l) : LexLe x i l := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

theorem LexLe.le {x : Fin n → EReal} {i j : Fin n} (h : LexLe x i j) : x i ≤ x j := by
  rcases h with h | ⟨h, -⟩
  · exact h.le
  · exact h.le

theorem LexLe.total (x : Fin n → EReal) (i j : Fin n) : LexLe x i j ∨ LexLe x j i := by
  rcases lt_trichotomy (x i) (x j) with h | h | h
  · exact Or.inl (Or.inl h)
  · rcases le_total i j with h' | h'
    · exact Or.inl (Or.inr ⟨h, h'⟩)
    · exact Or.inr (Or.inr ⟨h.symm, h'⟩)
  · exact Or.inr (Or.inl h)

theorem LexLe.antisymm {x : Fin n → EReal} {i j : Fin n} (h : LexLe x i j) (h' : LexLe x j i) : i = j := by
  rcases h with h | ⟨h, hi⟩ <;> rcases h' with h' | ⟨h', hi'⟩
  · exact absurd (h.trans h') (lt_irrefl _)
  · exact absurd (h' ▸ h) (lt_irrefl _)
  · exact absurd (h ▸ h') (lt_irrefl _)
  · exact le_antisymm hi hi'

/-! ## Exponentials and quotients on the extended reals -/

theorem exp_nonneg (a : EReal) : 0 ≤ Ideal.exp a := by
  induction a using EReal.rec with
  | bot => simp
  | coe r => rw [Ideal.exp_coe]; exact_mod_cast (Real.exp_pos r).le
  | top => simp

theorem exp_pos {a : EReal} (h : ⊥ < a) : 0 < Ideal.exp a := by
  induction a using EReal.rec with
  | bot => exact absurd h (lt_irrefl _)
  | coe r => rw [Ideal.exp_coe]; exact_mod_cast Real.exp_pos r
  | top => simp

theorem exp_lt_top {a : EReal} (h : a < ⊤) : Ideal.exp a < ⊤ := by
  induction a using EReal.rec with
  | bot => simp
  | coe r => rw [Ideal.exp_coe]; exact EReal.coe_lt_top _
  | top => exact absurd h (lt_irrefl _)

theorem div_nonneg' {a z : EReal} (ha : 0 ≤ a) (hz : 0 < z) : 0 ≤ Ideal.div a z := by
  rw [Ideal.div, if_neg hz.ne']
  exact mul_nonneg ha (EReal.inv_nonneg_of_nonneg hz.le)

theorem div_pos' {a z : EReal} (ha : 0 < a) (hz : 0 < z) (hz' : z < ⊤) : 0 < Ideal.div a z := by
  rw [Ideal.div, if_neg hz.ne']
  exact EReal.mul_pos ha (EReal.inv_pos_of_pos_ne_top hz hz'.ne)

theorem zero_div' {z : EReal} (hz : 0 < z) : Ideal.div 0 z = 0 := by
  rw [Ideal.div, if_neg hz.ne', zero_mul]

theorem sum_lt_top {ι : Type} (s : Finset ι) (f : ι → EReal) (h0 : ∀ i ∈ s, 0 ≤ f i) (h : ∀ i ∈ s, f i < ⊤) :
    ∑ i ∈ s, f i < ⊤ := by
  induction s using Finset.induction_on with
  | empty => simp
  | insert a s ha ih =>
    rw [sum_insert ha]
    refine EReal.add_lt_top (h a (mem_insert_self _ _)).ne ?_
    exact (ih (fun i hi => h0 i (mem_insert_of_mem hi)) fun i hi => h i (mem_insert_of_mem hi)).ne

/-! ## The sampler's values -/

/-- What the proofs assume of a row: no +∞ logit, a threshold above −∞ that some entry reaches, noise that is positive
    and finite. -/
structure Good (x : Fin n → EReal) (θ : EReal) (q : Fin n → EReal) : Prop where
  lt_top : ∀ i, x i < ⊤
  bot_lt : ⊥ < θ
  reach : ∃ i, θ ≤ x i
  q_pos : ∀ i, 0 < q i
  q_lt : ∀ i, q i < ⊤

variable {x : Fin n → EReal} {θ b : EReal} {q : Fin n → EReal}

theorem Good.top_lt (h : Good x θ q) : top x < ⊤ := by
  obtain ⟨i, hi⟩ := exists_top x
  exact hi ▸ h.lt_top i

theorem Good.le_top (h : Good x θ q) : θ ≤ top x := by
  obtain ⟨i, hi⟩ := h.reach
  exact hi.trans (Rows.le_top x i)

theorem Good.bot_top (h : Good x θ q) : ⊥ < top x := lt_of_lt_of_le h.bot_lt h.le_top

/-- The weight of an entry that reaches the threshold is positive. -/
theorem Good.weight_pos (h : Good x θ q) {i : Fin n} (hi : θ ≤ x i) : 0 < Ideal.exp (x i - top x) := by
  refine exp_pos ?_
  have h1 := lt_of_lt_of_le h.bot_lt hi
  have h2 := h.lt_top i
  have h3 := h.top_lt
  have h4 := h.bot_top
  lift x i to ℝ using ⟨h2.ne, h1.ne'⟩ with a
  lift top x to ℝ using ⟨h3.ne, h4.ne'⟩ with t
  rw [← EReal.coe_sub]
  exact EReal.bot_lt_coe _

theorem Good.weight_lt (h : Good x θ q) (i : Fin n) : Ideal.exp (x i - top x) < ⊤ := by
  refine exp_lt_top ?_
  have h2 := h.lt_top i
  have h3 := h.top_lt
  have h4 := h.bot_top
  lift top x to ℝ using ⟨h3.ne, h4.ne'⟩ with t
  generalize x i = a at h2
  induction a using EReal.rec with
  | bot => simp
  | coe r => rw [← EReal.coe_sub]; exact EReal.coe_lt_top _
  | top => exact absurd h2 (lt_irrefl _)

theorem e1_nonneg (i : Fin n) : 0 ≤ e1 x θ i := by
  unfold e1; split
  · exact exp_nonneg _
  · exact le_rfl

theorem e2_nonneg (i : Fin n) : 0 ≤ e2 x θ b i := by
  unfold e2; split
  · exact exp_nonneg _
  · exact le_rfl

/-- The first normaliser is positive. -/
theorem Good.z1_pos (h : Good x θ q) : 0 < ∑ j, e1 x θ j := by
  obtain ⟨i, hi⟩ := h.reach
  refine lt_of_lt_of_le (h.weight_pos hi) ?_
  have := single_le_sum (f := e1 x θ) (s := univ) (fun j _ => e1_nonneg j) (mem_univ i)
  rwa [e1, if_pos hi] at this

theorem Good.prob_nonneg (h : Good x θ q) (i : Fin n) : 0 ≤ prob x θ i := div_nonneg' (e1_nonneg i) h.z1_pos

/-- An entry below the threshold has probability 0. -/
theorem Good.prob_zero (h : Good x θ q) {i : Fin n} (hi : ¬ θ ≤ x i) : prob x θ i = 0 := by
  rw [prob, e1, if_neg hi, zero_div' h.z1_pos]

/-- The cumulative probability does not decrease along the order of the cut. -/
theorem Good.cum_mono (h : Good x θ q) {i j : Fin n} (hij : LexLe x i j) : cum x θ i ≤ cum x θ j := by
  refine sum_le_sum fun l _ => ?_
  by_cases hl : LexLe x l i
  · rw [if_pos hl, if_pos (hl.trans hij)]
  · rw [if_neg hl]
    split
    · exact h.prob_nonneg l
    · exact le_rfl

/-- What is kept is an upper end of the order of the cut. -/
theorem Good.kept_up (h : Good x θ q) {i j : Fin n} (hi : Kept x θ b i) (hij : LexLe x i j) : Kept x θ b j := by
  refine ⟨hi.1.trans hij.le, ?_⟩
  rcases hi.2 with hc | hl
  · exact Or.inl (lt_of_lt_of_le hc (h.cum_mono hij))
  · exact Or.inr fun l => (hl l).trans hij

/-- There is a last entry, and it is a greatest one. -/
theorem exists_last (x : Fin n → EReal) : ∃ i, IsLast x i := by
  have hne : (univ.filter fun i => x i = top x).Nonempty := by
    obtain ⟨i, hi⟩ := exists_top x
    exact ⟨i, by simp [hi]⟩
  refine ⟨(univ.filter fun i => x i = top x).max' hne, fun j => ?_⟩
  have hm := (mem_filter.1 (max'_mem _ hne)).2
  rcases lt_or_eq_of_le (Rows.le_top x j) with hj | hj
  · exact Or.inl (hm.symm ▸ hj)
  · exact Or.inr ⟨hj.trans hm.symm, le_max' _ _ (by simp [hj])⟩

theorem IsLast.eq_top {i : Fin n} (h : IsLast x i) : x i = top x := by
  obtain ⟨j, hj⟩ := exists_top x
  exact le_antisymm (Rows.le_top x i) (hj ▸ (h j).le)

theorem Good.last_kept (h : Good x θ q) {i : Fin n} (hi : IsLast x i) : Kept x θ b i :=
  ⟨hi.eq_top ▸ h.le_top, Or.inr hi⟩

/-- The second normaliser is positive. -/
theorem Good.z2_pos (h : Good x θ q) : 0 < ∑ j, e2 x θ b j := by
  obtain ⟨i, hi⟩ := exists_last x
  have hk := h.last_kept (b := b) hi
  refine lt_of_lt_of_le (h.weight_pos hk.1) ?_
  have := single_le_sum (f := e2 x θ b) (s := univ) (fun j _ => e2_nonneg j) (mem_univ i)
  rwa [e2, if_pos hk] at this

/-- The second normaliser is finite. -/
theorem Good.z2_lt (h : Good x θ q) : ∑ j, e2 x θ b j < ⊤ := by
  refine sum_lt_top _ _ (fun i _ => e2_nonneg i) fun i _ => ?_
  unfold e2; split
  · exact h.weight_lt i
  · exact EReal.zero_lt_top

/-- A kept entry has a positive score, -/
theorem Good.score_pos (h : Good x θ q) {i : Fin n} (hi : Kept x θ b i) : 0 < score x θ b q i := by
  rw [score, e2, if_pos hi]
  exact div_pos' (div_pos' (h.weight_pos hi.1) h.z2_pos h.z2_lt) (h.q_pos i) (h.q_lt i)

/-- and any other has score 0. -/
theorem Good.score_zero (h : Good x θ q) {i : Fin n} (hi : ¬ Kept x θ b i) : score x θ b q i = 0 := by
  rw [score, e2, if_neg hi, zero_div' h.z2_pos, zero_div' (h.q_pos i)]

/-- Rows that agree wherever one of them is positive, and are nowhere else above 0, have the same first maximum. -/
theorem pick_congr {u w : Fin n → EReal} (S : Fin n → Prop) (hS : ∃ i, S i) (h : ∀ i, S i → u i = w i)
    (hw : ∀ i, S i → 0 < w i) (hu0 : ∀ i, ¬ S i → u i ≤ 0) (hw0 : ∀ i, ¬ S i → w i ≤ 0) : pick u = pick w := by
  obtain ⟨o, ho⟩ := hS
  have hup : S (pick u) := by
    by_contra hn
    have h1 := hu0 _ hn
    rw [pick_val u] at h1
    exact absurd ((h o ho ▸ hw o ho).trans_le (Rows.le_top u o)) (not_lt.2 h1)
  have hwp : S (pick w) := by
    by_contra hn
    have h1 := hw0 _ hn
    rw [pick_val w] at h1
    exact absurd ((hw o ho).trans_le (Rows.le_top w o)) (not_lt.2 h1)
  have ht : top u = top w := by
    refine le_antisymm ?_ ?_
    · rw [← pick_val u, h _ hup]; exact Rows.le_top w _
    · rw [← pick_val w, ← h _ hwp]; exact Rows.le_top u _
  refine le_antisymm (pick_le ?_) (pick_le ?_)
  · rw [h _ hwp, pick_val w, ht]
  · rw [← h _ hup, pick_val u, ht]

end Cert.Rows

end
-- ==== Proof.Slots.lean ====
/- The sampler's values over the slots of the rounds: when the rounds take every entry that reaches the threshold, the
   sums and comparisons over the slots are those over the row. Nothing here mentions a program. -/
module

public import proofs.«01_k».proof.Proof.Sampler

@[expose] public section

noncomputable section

namespace Cert.Rows

open Finset Idealize.ShloMosaic
open scoped Classical

variable {n : ℕ} [NeZero n] {C : ℕ}

section Defs

variable (C) (x : Fin n → EReal) (θ b : EReal)

/-- The unnormalised weight of a slot after the first cut. -/
def slotE1 (s : ℕ) : EReal := if θ ≤ val x s then Ideal.exp (val x s - top x) else 0

/-- The probability of a slot after the first cut. -/
def slotProb (s : ℕ) : EReal := Ideal.div (slotE1 x θ s) (∑ l : Fin C, slotE1 x θ l)

/-- One slot is at or before another in the order of the cut. -/
def SlotLe (l s : ℕ) : Prop := val x l < val x s ∨ (val x l = val x s ∧ pos x l ≤ pos x s)

/-- The probability of the slots up to one, in the order of the cut. -/
def slotCum (s : ℕ) : EReal := ∑ l : Fin C, if SlotLe x l s then slotProb C x θ l else 0

/-- A slot holds the greatest value, at the last of the places that do. -/
def SlotLast (s : ℕ) : Prop := val x s = top x ∧ ∀ l : Fin C, val x l = top x → pos x l ≤ pos x s

/-- The slots both cuts keep. -/
def SlotKept (s : ℕ) : Prop := θ ≤ val x s ∧ ¬ (slotCum C x θ s ≤ b ∧ ¬ SlotLast C x s)

end Defs

variable {x : Fin n → EReal} {θ b : EReal} {q : Fin n → EReal}

theorem slotE1_of_le (h : Good x θ q) {s : ℕ} (hs : θ ≤ val x s) : slotE1 x θ s = e1 x θ (pos x s) := by
  rw [slotE1, e1, x_pos h.bot_lt hs]

/-- The normaliser over the slots is the one over the row. -/
theorem slotZ1 (h : Good x θ q) (hC : (univ.filter fun i => θ ≤ x i).card ≤ C) :
    ∑ l : Fin C, slotE1 x θ l = ∑ j, e1 x θ j := by
  rw [← sum_rounds (x := x) h.bot_lt hC (e1 x θ) fun i hi => if_neg hi]
  refine sum_congr rfl fun s _ => ?_
  by_cases hs : θ ≤ val x s
  · rw [if_pos hs, slotE1_of_le h hs]
  · rw [if_neg hs, slotE1, if_neg hs]

theorem slotProb_of_le (h : Good x θ q) (hC : (univ.filter fun i => θ ≤ x i).card ≤ C) {s : ℕ} (hs : θ ≤ val x s) :
    slotProb C x θ s = prob x θ (pos x s) := by
  rw [slotProb, prob, slotZ1 h hC, slotE1_of_le h hs]

theorem slotLe_iff (h : Good x θ q) {l s : ℕ} (hl : θ ≤ val x l) (hs : θ ≤ val x s) :
    SlotLe x l s ↔ LexLe x (pos x l) (pos x s) := by
  rw [SlotLe, LexLe, x_pos h.bot_lt hl, x_pos h.bot_lt hs]

/-- The cumulative probability of a slot is that of the entry it took. -/
theorem slotCum_eq (h : Good x θ q) (hC : (univ.filter fun i => θ ≤ x i).card ≤ C) {s : ℕ} (hs : θ ≤ val x s) :
    slotCum C x θ s = cum x θ (pos x s) := by
  rw [cum, ← sum_rounds (x := x) h.bot_lt hC (fun j => if LexLe x j (pos x s) then prob x θ j else 0) fun i hi => by
    simp only [h.prob_zero hi, ite_self]]
  refine sum_congr rfl fun l _ => ?_
  by_cases hl : θ ≤ val x l
  · rw [if_pos hl, slotProb_of_le h hC hl]
    simp only [slotLe_iff h hl hs]
  · rw [if_neg hl, slotProb, slotZ1 h hC, slotE1, if_neg hl, zero_div' h.z1_pos, ite_self]

/-- The last slot is the one that took the last entry. -/
theorem slotLast_iff (h : Good x θ q) (hC : (univ.filter fun i => θ ≤ x i).card ≤ C) {s : ℕ} (hs : θ ≤ val x s) :
    SlotLast C x s ↔ IsLast x (pos x s) := by
  constructor
  · rintro ⟨hv, hm⟩ j
    rcases lt_or_eq_of_le (Rows.le_top x j) with hj | hj
    · exact Or.inl (by rw [x_pos h.bot_lt hs, hv]; exact hj)
    · obtain ⟨l, hl, e, he⟩ := exists_round h.bot_lt hC (hj ▸ h.le_top : θ ≤ x j)
      refine Or.inr ⟨by rw [x_pos h.bot_lt hs, hv, hj], ?_⟩
      rw [← e]
      exact hm ⟨l, hl⟩ (he.trans hj)
  · intro hl
    refine ⟨by rw [← x_pos h.bot_lt hs, hl.eq_top], fun l he => ?_⟩
    have ht : θ ≤ val x l := by rw [he]; exact h.le_top
    have hx : x (pos x l) = top x := by rw [x_pos h.bot_lt ht, he]
    rcases hl (pos x l) with hlt | ⟨-, hle⟩
    · rw [hx] at hlt
      exact absurd (Rows.le_top x (pos x s)) (not_le.2 hlt)
    · exact hle

/-- A slot is kept when it took a kept entry. -/
theorem slotKept_iff (h : Good x θ q) (hC : (univ.filter fun i => θ ≤ x i).card ≤ C) (s : ℕ) :
    SlotKept C x θ b s ↔ θ ≤ val x s ∧ Kept x θ b (pos x s) := by
  rw [SlotKept]
  refine and_congr_right fun hs => ?_
  rw [Kept, x_pos h.bot_lt hs, slotCum_eq h hC hs, slotLast_iff h hC hs]
  constructor
  · intro hn
    refine ⟨hs, ?_⟩
    by_contra hc
    push Not at hc
    exact hn hc
  · rintro ⟨-, hc⟩ ⟨h1, h2⟩
    rcases hc with hc | hc
    · exact absurd h1 (not_le.2 hc)
    · exact h2 hc

/-- Every kept entry was taken by a kept slot. -/
theorem exists_slotKept (h : Good x θ q) (hC : (univ.filter fun i => θ ≤ x i).card ≤ C) {i : Fin n}
    (hi : Kept x θ b i) : ∃ s : Fin C, SlotKept C x θ b s ∧ pos x s = i ∧ val x s = x i := by
  obtain ⟨s, hs, e, he⟩ := exists_round h.bot_lt hC hi.1
  exact ⟨⟨s, hs⟩, (slotKept_iff h hC s).2 ⟨he ▸ hi.1, e ▸ hi⟩, e, he⟩

/-- The least kept slot, by value and then by place, marks off the kept entries of the whole row. -/
theorem kept_iff_boundary (h : Good x θ q) (hC : (univ.filter fun i => θ ≤ x i).card ≤ C) {vB : EReal} {iB : Fin n}
    (hv : ∀ s : Fin C, SlotKept C x θ b s → vB ≤ val x s)
    (hi : ∃ s : Fin C, (SlotKept C x θ b s ∧ val x s = vB) ∧ pos x s = iB)
    (hi' : ∀ s : Fin C, SlotKept C x θ b s ∧ val x s = vB → iB ≤ pos x s) (i : Fin n) :
    (vB < x i ∨ (x i = vB ∧ iB ≤ i)) ↔ Kept x θ b i := by
  constructor
  · obtain ⟨s, ⟨hs, hsv⟩, hsi⟩ := hi
    obtain ⟨ht, hk⟩ := (slotKept_iff h hC s).1 hs
    intro hc
    refine h.kept_up hk ?_
    rw [LexLe, x_pos h.bot_lt ht, hsv, hsi]
    exact hc.imp id fun hc => ⟨hc.1.symm, hc.2⟩
  · intro hk
    obtain ⟨s, hs, e, he⟩ := exists_slotKept h hC hk
    rcases lt_or_eq_of_le (hv s hs) with hl | hl
    · exact Or.inl (he ▸ hl)
    · exact Or.inr ⟨he ▸ hl.symm, e ▸ hi' s ⟨hs, hl.symm⟩⟩

/-- There is a kept slot, holding the greatest value. -/
theorem exists_slotKept_top (h : Good x θ q) (hC : (univ.filter fun i => θ ≤ x i).card ≤ C) :
    ∃ s : Fin C, SlotKept C x θ b s ∧ val x s = top x := by
  obtain ⟨i, hi⟩ := exists_last x
  obtain ⟨s, hs, -, he⟩ := exists_slotKept h hC (h.last_kept (b := b) hi)
  exact ⟨s, hs, he.trans hi.eq_top⟩

/-- The greatest kept value is the greatest value. -/
theorem slot_top [NeZero C] (h : Good x θ q) (hC : (univ.filter fun i => θ ≤ x i).card ≤ C) :
    top (fun s : Fin C => if SlotKept C x θ b s then val x s else ⊥) = top x := by
  obtain ⟨s, hs, he⟩ := exists_slotKept_top (b := b) h hC
  refine (eq_top ⟨s, by simp only [if_pos hs, he]⟩ fun l => ?_).symm
  by_cases hl : SlotKept C x θ b l
  · simp only [if_pos hl]
    exact val_anti x (Nat.zero_le _)
  · simp only [if_neg hl, bot_le]

/-- The second normaliser over the slots is the one over the row. -/
theorem slotZ2 (h : Good x θ q) (hC : (univ.filter fun i => θ ≤ x i).card ≤ C) :
    (∑ s : Fin C, if SlotKept C x θ b s then Ideal.exp (val x s - top x) else 0) = ∑ j, e2 x θ b j := by
  rw [← sum_rounds (x := x) h.bot_lt hC (e2 x θ b) fun i hi => if_neg fun hk => hi hk.1]
  refine sum_congr rfl fun s _ => ?_
  by_cases hs : θ ≤ val x s
  · rw [if_pos hs, e2, x_pos h.bot_lt hs]
    simp only [slotKept_iff h hC s, hs, true_and]
  · rw [if_neg hs, if_neg fun hk => hs hk.1]

/-- The greatest value over the slots is the greatest of the row. -/
theorem top_slots [NeZero C] : top (fun s : Fin C => val x s) = top x :=
  (eq_top ⟨0, by simp [val_zero]⟩ fun _ => val_anti x (Nat.zero_le _)).symm

/-- Scores computed only on the kept entries, with −1 elsewhere, have the sampler's first maximum. -/
theorem pick_masked (h : Good x θ q) {u : Fin n → EReal} (hu : ∀ i, Kept x θ b i → u i = score x θ b q i)
    (hu' : ∀ i, ¬ Kept x θ b i → u i ≤ 0) : pick u = pick (score x θ b q) := by
  obtain ⟨o, ho⟩ := exists_last x
  exact pick_congr (Kept x θ b) ⟨o, h.last_kept ho⟩ hu (fun i hi => h.score_pos hi) hu'
    fun i hi => (h.score_zero hi).le

end Cert.Rows

end
-- ==== Proof.KernelRow.lean ====
/- What follows the kernel's loop, read along one row: the slots both cuts keep, the least of them, and the answer. -/
module

public import proofs.«01_k».proof.Proof.KernelLoop
public import proofs.«01_k».proof.Proof.Slots

@[expose] public section

noncomputable section

namespace Cert.KernelIdeal.Rows

open Finset Idealize.ShloMosaic Cert.KernelIdeal Cert.KernelIdeal.Gen Cert.Rows
open scoped Classical

/-- The slots both cuts keep, as the kernel computes them from the slots' values and places. -/
def keptSlots (v : FVec Ideal S16x68 .f32) (a : IVec S16x68 32) (k : Vec Ideal S16x1 .i32) (p : Vec Ideal S16x1 .f32) : IVec S16x68 1 :=
  k0_pay18 v a (k0_pay9 p) (k0_pay10 v k) (k0_pay11 v) (k0_pay12 v k) (k0_pay13 v) (k0_pay14 v) (k0_pay15 a) (k0_pay16 a) (k0_pay17 v)

/-- The least kept value. -/
def leastValue (v : FVec Ideal S16x68 .f32) (a : IVec S16x68 32) (k : Vec Ideal S16x1 .i32) (p : Vec Ideal S16x1 .f32) : FVec Ideal S16x1 .f32 :=
  k0_pay19 v a (k0_pay9 p) (k0_pay10 v k) (k0_pay11 v) (k0_pay12 v k) (k0_pay13 v) (k0_pay14 v) (k0_pay15 a) (k0_pay16 a) (k0_pay17 v)

/-- The first place of the least kept value. -/
def leastPlace (v : FVec Ideal S16x68 .f32) (a : IVec S16x68 32) (k : Vec Ideal S16x1 .i32) (p : Vec Ideal S16x1 .f32) : IVec S16x1 32 :=
  k0_pay20 v a (k0_pay9 p) (k0_pay10 v k) (k0_pay11 v) (k0_pay12 v k) (k0_pay13 v) (k0_pay14 v) (k0_pay15 a) (k0_pay16 a) (k0_pay17 v)

/-- The kept values. -/
def keptValues (v : FVec Ideal S16x68 .f32) (a : IVec S16x68 32) (k : Vec Ideal S16x1 .i32) (p : Vec Ideal S16x1 .f32) : FVec Ideal S16x68 .f32 :=
  k0_pay21 v a (k0_pay9 p) (k0_pay10 v k) (k0_pay11 v) (k0_pay12 v k) (k0_pay13 v) (k0_pay14 v) (k0_pay15 a) (k0_pay16 a) (k0_pay17 v)

/-- The places of a block along its rows. -/
abbrev places : IVec S16x100000 32 := iota .tc S16x100000 32 [1] iota_S16x100000_d1_w32

section Reads

variable (v : FVec Ideal S16x68 .f32) (a : IVec S16x68 32) (b : FVec Ideal S16x1 .f32) (c : IVec S16x68 1) (m : FVec Ideal S16x1 .f32)
variable (e : FVec Ideal S16x68 .f32) (v1 : FVec Ideal S16x68x1 .f32) (v2 : FVec Ideal S16x1x68 .f32) (a1 : IVec S16x68x1 32)
variable (a2 : IVec S16x1x68 32) (v3 : FVec Ideal S16x68x68 .f32) (r : Fin 16)

theorem pay19_read : k0_pay19 v a b c m e v1 v2 a1 a2 v3 (ix2 r 0) = univ.fold min (Ideal.ofBits .f32 0x7F800000#32)
    fun s : Fin 68 => Scalar.select (k0_pay18 v a b c m e v1 v2 a1 a2 v3 (ix2 r s)) (v (ix2 r s)) (Ideal.ofBits .f32 0x7F800000#32) := by
  unfold k0_pay19
  pointwise

theorem pay20_read : k0_pay20 v a b c m e v1 v2 a1 a2 v3 (ix2 r 0) = univ.fold IntOp.minsi 2147483647#32
    fun s : Fin 68 => Scalar.select (IntOp.andi (k0_pay18 v a b c m e v1 v2 a1 a2 v3 (ix2 r s))
      (BitVec.ofBool (decide (v (ix2 r s) = k0_pay19 v a b c m e v1 v2 a1 a2 v3 (ix2 r 0))))) (a (ix2 r s)) 100000#32 := by
  unfold k0_pay20
  pointwise

theorem pay21_read (s : Fin 68) : k0_pay21 v a b c m e v1 v2 a1 a2 v3 (ix2 r s)
    = Scalar.select (k0_pay18 v a b c m e v1 v2 a1 a2 v3 (ix2 r s)) (v (ix2 r s)) (Ideal.ofBits .f32 0xFF800000#32) := by
  unfold k0_pay21
  pointwise

end Reads

variable {v : FVec Ideal S16x68 .f32} {a : IVec S16x68 32} {k : Vec Ideal S16x1 .i32} {p : Vec Ideal S16x1 .f32}
variable {r : Fin 16} {x : Fin 100000 → EReal} {q : Fin 100000 → EReal} {K : Fin 68}

theorem pay10_at (hv : ∀ s : Fin 68, v (ix2 r s) = val x s) (hk : IntOp.subi (k (ix2 r 0)) 1#32 = word K) (s : Fin 68) :
    k0_pay10 v k (ix2 r s) = 1#1 ↔ val x K ≤ val x s := by
  have e : (∑ l : Fin 68, Scalar.select (IntOp.cmpi .eq (BitVec.ofNat 32 l.val) (IntOp.subi (k (ix2 r 0)) 1#32)) (v (ix2 r l)) 0) = val x K := by
    rw [hk, sum_eq_single K]
    · exact (select_of ((eqi_one _ _).trans (word_inj (n := 68) (i := K) (j := K) (by norm_num))) _ _).trans ((if_pos rfl).trans (hv K))
    · intro l _ hl
      exact (select_of ((eqi_one _ _).trans (word_inj (n := 68) (i := l) (j := K) (by norm_num))) _ _).trans (if_neg hl)
    · exact fun h => absurd (mem_univ _) h
  unfold k0_pay10
  pointwise
  rw [ofBool_one, hv]
  rw [e]

theorem pay11_at (hv : ∀ s : Fin 68, v (ix2 r s) = val x s) : k0_pay11 v (ix2 r 0) = top x := by
  unfold k0_pay11
  pointwise
  refine (fold_max _).trans ?_
  simp only [hv]
  exact top_slots

theorem pay12_at (hv : ∀ s : Fin 68, v (ix2 r s) = val x s) (hk : IntOp.subi (k (ix2 r 0)) 1#32 = word K) (s : Fin 68) :
    k0_pay12 v k (ix2 r s) = slotProb 68 x (val x K) s := by
  unfold k0_pay12
  pointwise
  simp only [pay11_at hv, select_of (pay10_at hv hk _), hv, slotProb, slotE1]

/-- The kernel's mask is the slots both cuts keep. -/
theorem kept_at (hv : ∀ s : Fin 68, v (ix2 r s) = val x s) (ha : ∀ s : Fin 68, a (ix2 r s) = word (pos x s))
    (hk : IntOp.subi (k (ix2 r 0)) 1#32 = word K) (s : Fin 68) :
    keptSlots v a k p (ix2 r s) = 1#1 ↔ SlotKept 68 x (val x K) (1 - p (ix2 r 0)) s := by
  unfold keptSlots k0_pay18 k0_pay9 k0_pay13 k0_pay15 k0_pay16 k0_pay17 k0_pay14
  pointwise
  have e (l : Fin 68) : Scalar.select (IntOp.ori (BitVec.ofBool (decide (v (ix2 r l) < v (ix2 r s))))
      (IntOp.andi (BitVec.ofBool (decide (v (ix2 r l) = v (ix2 r s)))) (IntOp.cmpi .sle (a (ix2 r l)) (a (ix2 r s)))))
      (k0_pay12 v k (ix2 r l)) 0 = if SlotLe x l s then slotProb 68 x (val x K) l else 0 := by
    rw [select_of (P := SlotLe x l s), pay12_at hv hk]
    rw [ori_one, andi_one, ofBool_one, ofBool_one, hv, hv, ha, ha, word_sle le_rfl]
    rfl
  rw [andi_one, pay10_at hv hk, xori_one, andi_one, xori_one, andi_one, ofBool_one, ofBool_one, eqi_one, sum_congr rfl fun l _ => e l]
  simp only [pay11_at hv, hv, ha]
  obtain ⟨o, ho, ef, hm⟩ := fold_last (n := 100000) (C := 68) le_rfl
    (fun l => if val x l = top x then word (pos x l) else 4294967295#32) (fun l => val x l = top x) (fun l => pos x l)
    (fun l => rfl) ⟨0, by simp [val_zero]⟩
  rw [ef, word_inj le_rfl, SlotKept, SlotLast, slotCum]
  refine and_congr_right fun _ => not_congr (and_congr_right fun _ => not_congr (and_congr_right fun hs => ?_))
  exact ⟨fun h l hl => (hm l hl).trans h.ge, fun h => le_antisymm (hm s hs) (h o ho)⟩

/-- The least kept value is at most every kept value, and one of them. -/
theorem leastValue_at (hv : ∀ s : Fin 68, v (ix2 r s) = val x s) (hne : ∃ s : Fin 68, keptSlots v a k p (ix2 r s) = 1#1) :
    (∀ s : Fin 68, keptSlots v a k p (ix2 r s) = 1#1 → leastValue v a k p (ix2 r 0) ≤ val x s) ∧
      ∃ s : Fin 68, keptSlots v a k p (ix2 r s) = 1#1 ∧ val x s = leastValue v a k p (ix2 r 0) := by
  have e : leastValue v a k p (ix2 r 0) = univ.inf fun s : Fin 68 => if keptSlots v a k p (ix2 r s) = 1#1 then val x s else ⊤ := by
    refine ((pay19_read ..).trans (fold_min _)).trans ?_
    refine congrArg univ.inf (funext fun s => ?_)
    rw [word_pos_inf, hv]
    exact select_of (P := keptSlots v a k p (ix2 r s) = 1#1) Iff.rfl _ _
  have h1 : ∀ s : Fin 68, keptSlots v a k p (ix2 r s) = 1#1 → leastValue v a k p (ix2 r 0) ≤ val x s := fun s hs => by
    rw [e]
    refine (inf_le (mem_univ s)).trans (le_of_eq ?_)
    rw [if_pos hs]
  refine ⟨h1, ?_⟩
  obtain ⟨s, -, hs⟩ := exists_mem_eq_inf univ univ_nonempty
    fun s : Fin 68 => if keptSlots v a k p (ix2 r s) = 1#1 then val x s else ⊤
  by_cases hk : keptSlots v a k p (ix2 r s) = 1#1
  · rw [if_pos hk] at hs
    exact ⟨s, hk, hs.symm.trans e.symm⟩
  · rw [if_neg hk] at hs
    obtain ⟨o, ho⟩ := hne
    have h2 := h1 o ho
    rw [e, hs, top_le_iff] at h2
    exact ⟨o, ho, by rw [h2, e, hs]⟩

/-- The first place of the least kept value. -/
theorem leastPlace_at (hv : ∀ s : Fin 68, v (ix2 r s) = val x s) (ha : ∀ s : Fin 68, a (ix2 r s) = word (pos x s))
    (hne : ∃ s : Fin 68, keptSlots v a k p (ix2 r s) = 1#1 ∧ val x s = leastValue v a k p (ix2 r 0)) :
    ∃ i : Fin 100000, leastPlace v a k p (ix2 r 0) = word i ∧
      (∃ s : Fin 68, (keptSlots v a k p (ix2 r s) = 1#1 ∧ val x s = leastValue v a k p (ix2 r 0)) ∧ pos x s = i) ∧
      ∀ s : Fin 68, keptSlots v a k p (ix2 r s) = 1#1 ∧ val x s = leastValue v a k p (ix2 r 0) → i ≤ pos x s := by
  have e : leastPlace v a k p (ix2 r 0) = univ.fold IntOp.minsi 2147483647#32 fun s : Fin 68 =>
      if keptSlots v a k p (ix2 r s) = 1#1 ∧ val x s = leastValue v a k p (ix2 r 0) then word (pos x s) else 100000#32 := by
    refine (pay20_read ..).trans ?_
    refine congrArg (fun g => fold IntOp.minsi 2147483647#32 g univ) (funext fun s => ?_)
    rw [hv, ha]
    refine select_of (P := keptSlots v a k p (ix2 r s) = 1#1 ∧ val x s = leastValue v a k p (ix2 r 0)) ?_ _ _
    rw [andi_one, ofBool_one]
    rfl
  obtain ⟨s, hs, ef, hm⟩ := fold_first (n := 100000) (C := 68) le_rfl _
    (fun s => keptSlots v a k p (ix2 r s) = 1#1 ∧ val x s = leastValue v a k p (ix2 r 0)) (fun s => pos x s) (fun s => rfl) hne
  exact ⟨pos x s, e.trans ef, ⟨s, hs, rfl⟩, hm⟩

theorem keptValues_at (hv : ∀ s : Fin 68, v (ix2 r s) = val x s) (s : Fin 68) :
    keptValues v a k p (ix2 r s) = if keptSlots v a k p (ix2 r s) = 1#1 then val x s else ⊥ := by
  refine (pay21_read ..).trans ?_
  rw [word_neg_inf, hv]
  exact select_of (P := keptSlots v a k p (ix2 r s) = 1#1) Iff.rfl _ _

theorem word_neg_one : Ideal.ofBits .f32 0xBF800000#32 ≤ (0 : EReal) := by
  have e : Ideal.ofBits .f32 0xBF800000#32 = ((-1 : ℝ) : EReal) := by
    simp [Ideal.ofBits, Ideal.ieee, -EReal.coe_mul]
    norm_num
  rw [e]
  exact_mod_cast (by norm_num : (-1 : ℝ) ≤ 0)

/-- The kernel's answer on a row is the place of the first greatest score. -/
theorem answer_at {x0 x3 : Vec Ideal S16x100000 .f32} (hx : row x0 r = x) (hq : row x3 r = q)
    (hv : ∀ s : Fin 68, v (ix2 r s) = val x s) (ha : ∀ s : Fin 68, a (ix2 r s) = word (pos x s))
    (hk : IntOp.subi (k (ix2 r 0)) 1#32 = word K) (h : Good x (val x K) q)
    (hC : (univ.filter fun i => val x K ≤ x i).card ≤ 68) :
    k0_pay22 places x0 x3 v (keptSlots v a k p) (leastValue v a k p) (leastPlace v a k p) (keptValues v a k p) (ix2 r 0)
      = word (pick (score x (val x K) (1 - p (ix2 r 0)) q)) := by
  have hm := kept_at (p := p) hv ha hk
  obtain ⟨o, ho, -⟩ := exists_slotKept_top (b := 1 - p (ix2 r 0)) h hC
  obtain ⟨hl, hl'⟩ := leastValue_at hv ⟨o, (hm o).2 ho⟩
  obtain ⟨iB, ei, hi, hi'⟩ := leastPlace_at hv ha hl'
  have hb := kept_iff_boundary (b := 1 - p (ix2 r 0)) h hC (vB := leastValue v a k p (ix2 r 0)) (iB := iB)
    (fun s hs => hl s ((hm s).2 hs)) (by simpa only [hm] using hi) (by simpa only [hm] using hi')
  have hxi (i : Fin 100000) : x0 (ix2 r i) = x i := congrFun hx i
  have hqi (i : Fin 100000) : x3 (ix2 r i) = q i := congrFun hq i
  have hpl (i : Fin 100000) : places (ix2 r i) = word i := by
    unfold places
    pointwise
    rfl
  have hkf (i : Fin 100000) : IntOp.ori (BitVec.ofBool (decide (leastValue v a k p (ix2 r 0) < x i)))
      (IntOp.andi (BitVec.ofBool (decide (x i = leastValue v a k p (ix2 r 0)))) (IntOp.cmpi .sge (word i) (word iB))) = 1#1
        ↔ Kept x (val x K) (1 - p (ix2 r 0)) i := by
    rw [ori_one, andi_one, ofBool_one, ofBool_one, word_sge le_rfl]
    exact hb i
  have hz : (∑ s : Fin 68, Scalar.select (keptSlots v a k p (ix2 r s)) (Ideal.exp (val x s - top x)) 0) = ∑ j, e2 x (val x K) (1 - p (ix2 r 0)) j := by
    rw [← slotZ2 h hC]
    exact sum_congr rfl fun s _ => select_of (hm s) _ _
  have ht : fold max (Ideal.ofBits .f32 4286578688#32) (fun s : Fin 68 => keptValues v a k p (ix2 r s)) univ = top x := by
    refine (fold_max _).trans ?_
    simp only [keptValues_at hv, hm]
    exact slot_top h hC
  unfold k0_pay22
  pointwise
  simp only [ht, hxi, hqi, ei, hv, hz]
  set u : Fin 100000 → EReal := fun i => if Kept x (val x K) (1 - p (ix2 r 0)) i then
    Ideal.div (Ideal.div (Ideal.exp (x i - top x)) (∑ j, e2 x (val x K) (1 - p (ix2 r 0)) j)) (q i)
    else Ideal.ofBits .f32 3212836864#32 with hu
  have hs (i : Fin 100000) : Scalar.select (IntOp.ori (BitVec.ofBool (decide (leastValue v a k p (ix2 r 0) < x i)))
      (IntOp.andi (BitVec.ofBool (decide (x i = leastValue v a k p (ix2 r 0))))
        (IntOp.cmpi .sge (BitVec.ofNat 32 i.val) (word iB))))
      (Ideal.div (Ideal.div (Ideal.exp (x i - top x)) (∑ j, e2 x (val x K) (1 - p (ix2 r 0)) j)) (q i))
      (Ideal.ofBits .f32 3212836864#32) = u i := select_of (hkf i) _ _
  have hn : univ.fold IntOp.minsi 2147483647#32 (fun i : Fin 100000 =>
      Scalar.select (IntOp.andi (BitVec.ofBool (decide (q i = 0)))
        (IntOp.xori (IntOp.ori (BitVec.ofBool (decide (leastValue v a k p (ix2 r 0) < x i)))
          (IntOp.andi (BitVec.ofBool (decide (x i = leastValue v a k p (ix2 r 0))))
            (IntOp.cmpi .sge (BitVec.ofNat 32 i.val) (word iB)))) 1#1))
        (BitVec.ofNat 32 i.val) 100000#32) = 100000#32 := by
    refine fold_first_none _ fun i => (select_of (P := False) ?_ _ _).trans (if_neg not_false)
    rw [andi_one, ofBool_one]
    exact iff_false_intro fun hc => (h.q_pos i).ne' hc.1
  simp only [hs, hn]
  rw [show IntOp.cmpi .slt 100000#32 100000#32 = 0#1 from by decide, ValueIdx.select_zero, fold_max]
  obtain ⟨i, hi, ef, hm'⟩ := fold_first (n := 100000) le_rfl
    (fun i => if u i = top u then BitVec.ofNat 32 i.val else 100000#32) (fun i => u i = top u) id (fun i => rfl) (exists_top u)
  refine ef.trans (congrArg word ((eq_pick hi hm').trans (pick_masked h (b := 1 - p (ix2 r 0)) (fun i hk => ?_) fun i hk => ?_)))
  · rw [hu, score, e2]
    simp only [if_pos hk]
  · rw [hu]
    simp only [if_neg hk]
    exact word_neg_one

end Cert.KernelIdeal.Rows

end
-- ==== Proof.KernelBlock.lean ====
/- What a grid point writes back: the answers of its sixteen rows, from the blocks it is given. -/
module

public import proofs.«01_k».proof.Proof.KernelRow
public import proofs.«01_k».proof.Proof.Gen.KernelIdeal.Frame

@[expose] public section

noncomputable section

namespace Cert.KernelIdeal.Rows

open Finset Idealize.ShloMosaic Idealize.ShloMosaic.TcCoe Cert.KernelIdeal Cert.KernelIdeal.Gen Cert.Rows

/-- The slots after the loop: their values and their places. -/
def slots (x0 : Vec Ideal S16x100000 .f32) : Carry := Scf.fold round (x0, k0_pay1 (F := Ideal), k0_pay2)

/-- The column of answers of a block. -/
def blockAnswer (x0 : Vec Ideal S16x100000 .f32) (x1 : Vec Ideal S16x1 .i32) (x2 : Vec Ideal S16x1 .f32) (x3 : Vec Ideal S16x100000 .f32) : IVec S16x1 32 :=
  k0_pay22 places x0 x3 (slots x0).2.1 (keptSlots (slots x0).2.1 (slots x0).2.2 x1 x2) (leastValue (slots x0).2.1 (slots x0).2.2 x1 x2)
    (leastPlace (slots x0).2.1 (slots x0).2.2 x1 x2) (keptValues (slots x0).2.1 (slots x0).2.2 x1 x2)

theorem offsets_zero : (![0, 0] : Fin 2 → Nat) = fun _ => 0 := funext fun a => by fin_cases a <;> rfl

theorem out_block (c : Dev nD) (i : grid0.Coords) (arg1 : Memref sig .tc .vmem S16x100000 .f32) (h1 : arg1.IsWhole)
    (arg2 : Memref sig .tc .vmem S16x1 .i32) (h2 : arg2.IsWhole) (arg3 : Memref sig .tc .vmem S16x1 .f32) (h3 : arg3.IsWhole)
    (arg4 : Memref sig .tc .vmem S16x100000 .f32) (h4 : arg4.IsWhole) (arg5 : Memref sig .tc .vmem S16x1 .i32) (h5 : arg5.IsWhole)
    (x0 : Vec Ideal S16x100000 .f32) (x1 : Vec Ideal S16x1 .i32) (x2 : Vec Ideal S16x1 .f32) (x3 : Vec Ideal S16x100000 .f32) :
    out0_A_4 c i arg1 h1 arg2 h2 arg3 h3 arg4 h4 arg5 h5 x0 x1 x2 x3 = blockAnswer x0 x1 x2 x3 := by
  unfold out0_A_4
  rw [View.read_writes_eq_canon _ _ _ (cover0_A_4 c i arg1 h1 arg2 h2 arg3 h3 arg4 h4 arg5 h5 x0 x1 x2 x3)]
  unfold kernelRun0_A
  dsimp only
  sl_unfold_words
  rw [View.canon_unit_zero offsets_zero]
  simp only [View.readAt_eq_ld, h1.read_unread, h2.read_unread, h3.read_unread, h4.read_unread,
    View.ld_unit_zero (S := S16x100000) offsets_zero, View.ld_unit_zero (S := S16x1) offsets_zero, shapeCast_self]
  rfl

end Cert.KernelIdeal.Rows

end
-- ==== Proof.Target.lean ====
/- The common answer of both programs, as an array of the arguments, and what the precondition gives of each row. -/
module

public import proofs.«01_k».proof.Proof.Slots
public import proofs.«01_k».proof.Proof.Reductions

@[expose] public section

noncomputable section

namespace Cert.Rows

open Finset Idealize.ShloMosaic

/-- One row of an array of logits or of noise. -/
def line (X : FVec Ideal ⟨2, ![128, 100000]⟩ .f32) (g : Fin 128) (i : Fin 100000) : EReal := X (ix2 g i)

/-- A row's cutoff: its `k`-th greatest logit, `K` being `k − 1`. -/
def cutoff (X : FVec Ideal ⟨2, ![128, 100000]⟩ .f32) (K : Fin 128 → Fin 68) (g : Fin 128) : EReal := val (line X g) (K g)

/-- The answer of a row: the place of its first greatest score. -/
def target (X : FVec Ideal ⟨2, ![128, 100000]⟩ .f32) (K : Fin 128 → Fin 68) (p : FVec Ideal ⟨1, ![128]⟩ .f32)
    (Q : FVec Ideal ⟨2, ![128, 100000]⟩ .f32) (g : Fin 128) : Fin 100000 :=
  pick (score (line X g) (cutoff X K g) (1 - p (ix1 g)) (line Q g))

/-- What the precondition gives: `k − 1` is a slot, the row's logits and noise are fit to be sampled from, and few entries
    reach the cutoff. -/
structure Fit (X : FVec Ideal ⟨2, ![128, 100000]⟩ .f32) (k : IVec ⟨1, ![128]⟩ 32) (Q : FVec Ideal ⟨2, ![128, 100000]⟩ .f32)
    (K : Fin 128 → Fin 68) (g : Fin 128) : Prop where
  rank : IntOp.subi (k (ix1 g)) 1#32 = word (K g)
  good : Good (line X g) (cutoff X K g) (line Q g)
  few : (univ.filter fun i => cutoff X K g ≤ line X g i).card ≤ 68

end Cert.Rows

end
-- ==== Proof.KernelArray.lean ====
/- The kernel's result array: row by row, the place of the first greatest score. -/
module

public import proofs.«01_k».proof.Proof.KernelBlock
public import proofs.«01_k».proof.Proof.Target
public import proofs.«01_k».proof.Proof.Gen.KernelIdeal.Value
public import Idealize.ShloMosaic.Lib.Claim
public import Idealize.ShloMosaic.Lib.Pipeline.ValueKit.Point

@[expose] public section

noncomputable section

namespace Cert.KernelIdeal.Rows

open Finset Idealize.ShloMosaic Idealize.ShloMosaic.TcCoe Idealize.SL.Sem Cert.KernelIdeal Cert.KernelIdeal.Gen Cert.Rows
open scoped Classical

variable (m : (ℓ : Loc nD τ sig) → Buf (Elt Ideal) ℓ)

/-- The arguments of the launch. -/
abbrev logits (c : Dev nD) : FVec Ideal S128x100000 .f32 := m ((c : Thread nD τ).loc main_arg0)
abbrev ranks (c : Dev nD) : IVec S128 32 := m ((c : Thread nD τ).loc main_arg1)
abbrev masses (c : Dev nD) : FVec Ideal S128 .f32 := m ((c : Thread nD τ).loc main_arg2)
abbrev noise (c : Dev nD) : FVec Ideal S128x100000 .f32 := m ((c : Thread nD τ).loc main_arg3)

/-- The row of the arrays that row `r` of point `t`'s blocks is. -/
def rowOf (t : Fin cfg0.N) (r : Fin 16) : Fin 128 := ⟨t.val * 16 + r.val, by
  have hN : cfg0.N = 8 := N_0
  have := t.isLt; have := r.isLt; omega⟩

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] :=
  (by decide +kernel : ∀ t : Fin grid0.N, win0_0.index t = ![t.val, 0] ∧ win0_1.index t = ![t.val, 0] ∧ win0_2.index t = ![t.val, 0] ∧
    win0_3.index t = ![t.val, 0] ∧ win0_4.index t = ![t.val, 0])

theorem emb0 (t : Fin cfg0.N) (r : Fin 16) (i : Fin 100000) :
    ((cfg0.win 0).blk t).view.emb (ix2 r i) = (ix2 (rowOf t r) i : S128x100000.Idx) := by
  unfold rowOf
  blk_ext [idx t]

theorem emb1 (t : Fin cfg0.N) (r : Fin 16) : ((cfg0.win 1).blk t).view.emb (ix2 r 0) = (ix2 (rowOf t r) 0 : S128x1.Idx) := by
  unfold rowOf
  blk_ext [idx t]

theorem emb2 (t : Fin cfg0.N) (r : Fin 16) : ((cfg0.win 2).blk t).view.emb (ix2 r 0) = (ix2 (rowOf t r) 0 : S128x1.Idx) := by
  unfold rowOf
  blk_ext [idx t]

theorem emb3 (t : Fin cfg0.N) (r : Fin 16) (i : Fin 100000) :
    ((cfg0.win 3).blk t).view.emb (ix2 r i) = (ix2 (rowOf t r) i : S128x100000.Idx) := by
  unfold rowOf
  blk_ext [idx t]

theorem emb4 (t : Fin cfg0.N) (r : Fin 16) : ((cfg0.win 4).blk t).view.emb (ix2 r 0) = (ix2 (rowOf t r) 0 : S128x1.Idx) := by
  unfold rowOf
  blk_ext [idx t]

/-- A point's block of logits is sixteen rows of the logits, -/
theorem block0 (c : Dev nD) (t : Fin cfg0.N) (r : Fin 16) (i : Fin 100000) :
    (iblk m c 0 t : Vec Ideal S16x100000 .f32) (ix2 r i) = logits m c (ix2 (rowOf t r) i) := by
  unfold iblk
  entry_read
  exact congrArg (logits m c) (emb0 t r i)

/-- its block of ranks the ranks of those rows, -/
theorem block1 (c : Dev nD) (t : Fin cfg0.N) (r : Fin 16) :
    (iblk m c 1 t : Vec Ideal S16x1 .i32) (ix2 r 0) = ranks m c (ix1 (rowOf t r)) := by
  unfold iblk
  entry_read
  refine (congrArg (shapeCast S128x1 (ranks m c) shapeCasts_S128_S128x1) (emb1 t r)).trans ?_
  pointwise

/-- its block of probabilities those of the rows, -/
theorem block2 (c : Dev nD) (t : Fin cfg0.N) (r : Fin 16) :
    (iblk m c 2 t : Vec Ideal S16x1 .f32) (ix2 r 0) = masses m c (ix1 (rowOf t r)) := by
  unfold iblk
  entry_read
  refine (congrArg (shapeCast S128x1 (masses m c) shapeCasts_S128_S128x1) (emb2 t r)).trans ?_
  pointwise

/-- and its block of noise the rows' noise. -/
theorem block3 (c : Dev nD) (t : Fin cfg0.N) (r : Fin 16) (i : Fin 100000) :
    (iblk m c 3 t : Vec Ideal S16x100000 .f32) (ix2 r i) = noise m c (ix2 (rowOf t r) i) := by
  unfold iblk
  entry_read
  exact congrArg (noise m c) (emb3 t r i)

/-- The answers of a block are the targets of its rows. -/
theorem block_answer (c : Dev nD) (K : Fin 128 → Fin 68)
    (hfit : ∀ g, Fit (logits m c) (ranks m c) (noise m c) K g) (t : Fin cfg0.N) (r : Fin 16) :
    blockAnswer (iblk m c 0 t) (iblk m c 1 t) (iblk m c 2 t) (iblk m c 3 t) (ix2 r 0)
      = word (target (logits m c) K (masses m c) (noise m c) (rowOf t r)) := by
  have hx : row (iblk m c 0 t) r = line (logits m c) (rowOf t r) := funext fun i => block0 m c t r i
  have hq : row (iblk m c 3 t) r = line (noise m c) (rowOf t r) := funext fun i => block3 m c t r i
  have hs := fun s : Fin 68 => loop_taken (iblk m c 0 t) (k0_pay1 (F := Ideal)) k0_pay2 r s
  rw [hx] at hs
  have h := hfit (rowOf t r)
  refine (answer_at (K := K (rowOf t r)) hx hq (fun s => (hs s).1) (fun s => (hs s).2) ?_ h.good h.few).trans ?_
  · rw [block1]
    exact h.rank
  · rw [block2]
    rfl

/-- The kernel's result array holds the targets. -/
theorem final (c : Dev nD) (K : Fin 128 → Fin 68) (hfit : ∀ g, Fit (logits m c) (ranks m c) (noise m c) K g) :
    (dats m 0 c).arrAt 4 cfg0.N = fun j : S128x1.Idx => word (target (logits m c) K (masses m c) (noise m c) (j 0)) := by
  refine (dats m 0 c).arrAt_eq_of_covers 4 _ (by decide +kernel) fun t hf y => ?_
  have e : (dats m 0 c).after 4 t = blockAnswer (iblk m c 0 t) (iblk m c 1 t) (iblk m c 2 t) (iblk m c 3 t) :=
    (after0_4 m c t).trans (out_block ..)
  obtain ⟨r, rfl⟩ : ∃ r : Fin 16, y = (ix2 r 0 : S16x1.Idx) := ⟨y 0, by
    funext d
    match d with
    | ⟨0, _⟩ => rfl
    | ⟨1, _⟩ => exact Fin.ext (by have := (y 1).isLt; change (y 1).val < 1 at this; show (y 1).val = 0; omega)⟩
  show (dats m 0 c).after 4 t (ix2 r 0) = _
  rw [e]
  exact (block_answer m c K hfit t r).trans
    (congrArg (fun j : S128x1.Idx => word (target (logits m c) K (masses m c) (noise m c) (j 0))) (emb4 t r)).symm

end Cert.KernelIdeal.Rows

end
-- ==== Proof.RefTerms.lean ====
/- The reference's answer as one term of its arguments, by named steps: sorting order, threshold, softmax, running sum,
   cut, inverse order, softmax again, first greatest entry. -/
module

public import proofs.«01_k».proof.Proof.Gen.ReferenceIdeal

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The sorting order of each row: at each sorted place, the place it came from. -/
def order (x : FVec F S128x100000 .f32) : IVec S128x100000 32 :=
  (Host.sort2 S128x100000 1 comparator_f32_i32_d1 x (iotaInDim S128x100000 32 1)).2

/-- Places, a negative one counted from the end, as the gather takes them. -/
def places (a : IVec S128x100000 32) : IVec S128x100000x1 32 :=
  shapeCast S128x100000x1 (select (cmpi .slt a (broadcastInDim S128x100000 ![] bcast_S_S128x100000 (constantI S_ 32 0#32)))
    (addi a (broadcastInDim S128x100000 ![] bcast_S_S128x100000 (constantI S_ 32 100000#32))) a) shapeCasts_S128x100000_S128x100000x1

/-- The entries of each row at the places listed, one list per row. -/
def along (x : FVec F S128x100000 .f32) (a : IVec S128x100000 32) : FVec F S128x100000 .f32 :=
  select (Host.reduce IntOp.andi
      (andi (cmpi .sge (places a) (broadcastInDim S128x100000x1 ![] bcast_S_S128x100000x1 (constantI S_ 32 0#32)))
        (cmpi .sle (places a) (broadcastInDim S128x100000x1 ![0, 1, 2] bcast_S1x1x1_S128x100000x1_0_1_2
          (broadcastInDim S1x1x1 ![2] bcast_S1_S1x1x1_2 (constantI S1 32 99999#32)))))
      (constantI S_ 1 1#1) reducesTo_S128x100000x1_S128x100000_d2 h_S_)
    (Host.gather gather_S128x100000_S128x100000x1_S128x100000_n_1_0_0_1_2_11 x (places a))
    (broadcastInDim S128x100000 ![] bcast_S_S128x100000 (constant S_ .f32 0x7FC00000#32))

/-- The place of the k-th greatest entry of a sorted row. -/
def kth (k : IVec S128 32) : IVec S128x1 32 :=
  broadcastInDim S128x1 ![0] bcast_S128_S128x1_0 (subi (broadcastInDim S128 ![] bcast_S_S128 (constantI S_ 32 100000#32)) k)

/-- One place per row, a negative one counted from the end, as the gather takes them. -/
def place (a : IVec S128x1 32) : IVec S128x1x1 32 :=
  shapeCast S128x1x1 (select (cmpi .slt a (broadcastInDim S128x1 ![] bcast_S_S128x1 (constantI S_ 32 0#32)))
    (addi a (broadcastInDim S128x1 ![] bcast_S_S128x1 (constantI S_ 32 100000#32))) a) shapeCasts_S128x1_S128x1x1

/-- The entry of each row at the one place listed for it. -/
def alongOne (x : FVec F S128x100000 .f32) (a : IVec S128x1 32) : FVec F S128x1 .f32 :=
  select (Host.reduce IntOp.andi
      (andi (cmpi .sge (place a) (broadcastInDim S128x1x1 ![] bcast_S_S128x1x1 (constantI S_ 32 0#32)))
        (cmpi .sle (place a) (broadcastInDim S128x1x1 ![0, 1, 2] bcast_S1x1x1_S128x1x1_0_1_2
          (broadcastInDim S1x1x1 ![2] bcast_S1_S1x1x1_2 (constantI S1 32 99999#32)))))
      (constantI S_ 1 1#1) reducesTo_S128x1x1_S128x1_d2 h_S_)
    (Host.gather gather_S128x100000_S128x1x1_S128x1_n_1_0_0_1_2_11 x (place a))
    (broadcastInDim S128x1 ![] bcast_S_S128x1 (constant S_ .f32 0x7FC00000#32))

/-- A row with everything below its threshold replaced by −∞. -/
def cut (x : FVec F S128x100000 .f32) (t : FVec F S128x1 .f32) : FVec F S128x100000 .f32 :=
  select (cmpf .olt x (broadcastInDim S128x100000 ![0, 1] bcast_S128x1_S128x100000_0_1 t))
    (broadcastInDim S128x100000 ![] bcast_S_S128x100000 (constant S_ .f32 0xFF800000#32)) x

/-- The exponential of each entry less the greatest of its row. -/
def weights (x : FVec F S128x100000 .f32) : FVec F S128x100000 .f32 :=
  Host.exp (subf x (broadcastInDim S128x100000 ![0, 1] bcast_S128x1_S128x100000_0_1
    (broadcastInDim S128x1 ![0] bcast_S128_S128x1_0
      (maximumf (broadcastInDim S128 ![] bcast_S_S128 (constant S_ .f32 0xFF800000#32))
        (Host.reduce FloatOps.maximumf x (constant S_ .f32 0xFF800000#32) reducesTo_S128x100000_S128_d1 h_S_)))))

/-- The softmax of each row. -/
def softmax (x : FVec F S128x100000 .f32) : FVec F S128x100000 .f32 :=
  Host.divf (weights x) (broadcastInDim S128x100000 ![0, 1] bcast_S128x1_S128x100000_0_1
    (broadcastInDim S128x1 ![0] bcast_S128_S128x1_0
      (Host.reduceAdd (weights x) (constant S_ .f32 0x00000000#32) reducesTo_S128x100000_S128_d1 h_S_)))

/-- The running sum of each row. -/
def cumsum (x : FVec F S128x100000 .f32) : FVec F S128x100000 .f32 :=
  Host.reduceWindowAdd ![1, 100000] ![1, 1] ![0, 99999] ![0, 0] x
    (broadcastInDim S_ ![] bcast_S_S_ (constant S_ .f32 0x00000000#32))
    reduceWindows_S128x100000_S128x100000_w1s1p0_0_w100000s1p99999_0 h_S_

/-- The sorted places whose running sum is at most one less the row's probability. -/
def low (c : FVec F S128x100000 .f32) (p : FVec F S128 .f32) : IVec S128x100000 1 :=
  cmpf .ole c (broadcastInDim S128x100000 ![0, 1] bcast_S128x1_S128x100000_0_1
    (broadcastInDim S128x1 ![0] bcast_S128_S128x1_0 (subf (broadcastInDim S128 ![] bcast_S_S128 (constant S_ .f32 0x3F800000#32)) p)))

/-- The places to drop: the same with the last place of each row cleared. -/
def dropped (d : IVec S128x100000 1) : IVec S128x100000 1 :=
  Host.scatter scatter_S128x100000_S1_S128_0_1_1_0 (fun _ b => b) d (broadcastInDim S1 ![] bcast_S_S1 (constantI S_ 32 99999#32))
    (broadcastInDim S128 ![] bcast_S_S128 (constantI S_ 1 0#1))

/-- A row with the places to drop replaced by −∞. -/
def cutTail (d : IVec S128x100000 1) (x : FVec F S128x100000 .f32) : FVec F S128x100000 .f32 :=
  select d (broadcastInDim S128x100000 ![] bcast_S_S128x100000 (constant S_ .f32 0xFF800000#32)) x

/-- The sorting order of each row of whole numbers. -/
def orderI (a : IVec S128x100000 32) : IVec S128x100000 32 :=
  (Host.sort2 S128x100000 1 comparator_i32_i32_d1 a (iotaInDim S128x100000 32 1)).2

/-- The place of the first greatest entry of each row, as a column. -/
def firstMax (x : FVec F S128x100000 .f32) : IVec S128x1 32 :=
  shapeCast S128x1 (fun j => (Host.argReduce reducer_argmax_f32_i32 x (iotaInDim S128x100000 32 1)
    (constant S_ .f32 0xFF800000#32) (constantI S_ 32 0#32) reducesTo_S128x100000_S128_d1 h_S_ j).2) shapeCasts_S128_S128x1

/-- The sorted logits after the first cut. -/
def topK (x : FVec F S128x100000 .f32) (k : IVec S128 32) : FVec F S128x100000 .f32 :=
  cut (along x (order x)) (alongOne (along x (order x)) (kth k))

/-- The sorted logits after both cuts. -/
def topP (x : FVec F S128x100000 .f32) (k : IVec S128 32) (p : FVec F S128 .f32) : FVec F S128x100000 .f32 :=
  cutTail (dropped (low (cumsum (softmax (topK x k))) p)) (topK x k)

/-- The reference's answer as one term of the arguments. -/
def answer (x : FVec F S128x100000 .f32) (k : IVec S128 32) (p : FVec F S128 .f32) (q : FVec F S128x100000 .f32) : IVec S128x1 32 :=
  firstMax (Host.divf (softmax (along (topP x k p) (orderI (order x)))) q)

end Cert.ReferenceIdeal.Run

end
-- ==== Proof.ReferenceRun.lean ====
/- The reference's operations in order, and what its result buffer holds at the end as one term of the arguments. -/
module

public import proofs.«01_k».proof.Proof.RefTerms
public import Idealize.ShloMosaic.Lib.StableHlo.RunRead
public import Idealize.ShloMosaic.Lib.Quiescent

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Operations 0 to 2: what computes `main_v0`. -/
def opsOrder : List (HloOp τ sig (Elt F)) :=
  [ TRef.nullary (TRef.of (T := ⟨S128x100000, .i32⟩) main_call0_v0) (iotaInDim S128x100000 32 1),
    TRef.binary (TRef.of (T := ⟨S128x100000, .f32⟩) main_arg0) (TRef.of (T := ⟨S128x100000, .i32⟩) main_call0_v0) (TRef.of (T := ⟨S128x100000, .f32⟩) main_call0_v1_0) (fun x y => (Host.sort2 S128x100000 1 comparator_f32_i32_d1 x y).1),
    TRef.binary (TRef.of (T := ⟨S128x100000, .f32⟩) main_arg0) (TRef.of (T := ⟨S128x100000, .i32⟩) main_call0_v0) (TRef.of (T := ⟨S128x100000, .i32⟩) main_v0) (fun x y => (Host.sort2 S128x100000 1 comparator_f32_i32_d1 x y).2) ]

/-- Operations 3 to 24: what computes `main_v1`. -/
def opsSorted : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S128x100000, .i32⟩) main_call1_v0) (broadcastInDim S128x100000 ![] bcast_S_S128x100000),
    TRef.binary (TRef.of (T := ⟨S128x100000, .i32⟩) main_v0) (TRef.of (T := ⟨S128x100000, .i32⟩) main_call1_v0) (TRef.of (T := ⟨S128x100000, .i1⟩) main_call1_v1) (cmpi .slt),
    TRef.nullary (TRef.of (T := ⟨S_, .i32⟩) main_call1_c_0) (constantI S_ 32 100000#32),
    TRef.unary (TRef.of (T := ⟨S_, .i32⟩) main_call1_c_0) (TRef.of (T := ⟨S128x100000, .i32⟩) main_call1_v2) (broadcastInDim S128x100000 ![] bcast_S_S128x100000),
    TRef.binary (TRef.of (T := ⟨S128x100000, .i32⟩) main_v0) (TRef.of (T := ⟨S128x100000, .i32⟩) main_call1_v2) (TRef.of (T := ⟨S128x100000, .i32⟩) main_call1_v3) addi,
    TRef.ternary (TRef.of (T := ⟨S128x100000, .i1⟩) main_call1_v1) (TRef.of (T := ⟨S128x100000, .i32⟩) main_call1_v3) (TRef.of (T := ⟨S128x100000, .i32⟩) main_v0) (TRef.of (T := ⟨S128x100000, .i32⟩) main_call1_v4) select,
    TRef.reshape (TRef.of (T := ⟨S128x100000, .i32⟩) main_call1_v4) (TRef.of (T := ⟨S128x100000x1, .i32⟩) main_call1_v5) (rfl : (.i32 : EltTy) = .i32) shapeCasts_S128x100000_S128x100000x1,
    TRef.nullary (TRef.of (T := ⟨S1, .i32⟩) main_call1_c_1) (constantI S1 32 99999#32),
    TRef.nullary (TRef.of (T := ⟨S_, .i32⟩) main_call1_c_2) (constantI S_ 32 0#32),
    TRef.unary (TRef.of (T := ⟨S_, .i32⟩) main_call1_c_2) (TRef.of (T := ⟨S128x100000x1, .i32⟩) main_call1_v6) (broadcastInDim S128x100000x1 ![] bcast_S_S128x100000x1),
    TRef.binary (TRef.of (T := ⟨S128x100000x1, .i32⟩) main_call1_v5) (TRef.of (T := ⟨S128x100000x1, .i32⟩) main_call1_v6) (TRef.of (T := ⟨S128x100000x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S128x100000x1, .i32⟩) main_call1_v9) (broadcastInDim S128x100000x1 ![0, 1, 2] bcast_S1x1x1_S128x100000x1_0_1_2),
    TRef.binary (TRef.of (T := ⟨S128x100000x1, .i32⟩) main_call1_v5) (TRef.of (T := ⟨S128x100000x1, .i32⟩) main_call1_v9) (TRef.of (T := ⟨S128x100000x1, .i1⟩) main_call1_v10) (cmpi .sle),
    TRef.binary (TRef.of (T := ⟨S128x100000x1, .i1⟩) main_call1_v7) (TRef.of (T := ⟨S128x100000x1, .i1⟩) main_call1_v10) (TRef.of (T := ⟨S128x100000x1, .i1⟩) main_call1_v11) andi,
    TRef.nullary (TRef.of (T := ⟨S_, .i1⟩) main_call1_c_3) (constantI S_ 1 1#1),
    TRef.binary (TRef.of (T := ⟨S128x100000x1, .i1⟩) main_call1_v11) (TRef.of (T := ⟨S_, .i1⟩) main_call1_c_3) (TRef.of (T := ⟨S128x100000, .i1⟩) main_call1_v12) (fun x v => Host.reduce IntOp.andi x v reducesTo_S128x100000x1_S128x100000_d2 h_S_),
    TRef.binary (TRef.of (T := ⟨S128x100000, .f32⟩) main_arg0) (TRef.of (T := ⟨S128x100000x1, .i32⟩) main_call1_v5) (TRef.of (T := ⟨S128x100000, .f32⟩) main_call1_v13) (fun x i => Host.gather gather_S128x100000_S128x100000x1_S128x100000_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S128x100000, .f32⟩) main_call1_v14) (broadcastInDim S128x100000 ![] bcast_S_S128x100000),
    TRef.ternary (TRef.of (T := ⟨S128x100000, .i1⟩) main_call1_v12) (TRef.of (T := ⟨S128x100000, .f32⟩) main_call1_v13) (TRef.of (T := ⟨S128x100000, .f32⟩) main_call1_v14) (TRef.of (T := ⟨S128x100000, .f32⟩) main_v1) select ]

/-- Operations 25 to 50: what computes `main_v5`. -/
def opsThresh : List (HloOp τ sig (Elt F)) :=
  [ nullary main_c (constantI S_ 32 100000#32),
    unary main_c main_v2 (broadcastInDim S128 ![] bcast_S_S128 : (⟨S_, .i32⟩ : BufTy).Contents (Elt F) → (⟨S128, .i32⟩ : BufTy).Contents (Elt F)),
    binary main_v2 main_arg1 main_v3 (subi : (⟨S128, .i32⟩ : BufTy).Contents (Elt F) → (⟨S128, .i32⟩ : BufTy).Contents (Elt F) → (⟨S128, .i32⟩ : BufTy).Contents (Elt F)),
    unary main_v3 main_v4 (broadcastInDim S128x1 ![0] bcast_S128_S128x1_0 : (⟨S128, .i32⟩ : BufTy).Contents (Elt F) → (⟨S128x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S128x1, .i32⟩) main_call2_v0) (broadcastInDim S128x1 ![] bcast_S_S128x1),
    TRef.binary (TRef.of (T := ⟨S128x1, .i32⟩) main_v4) (TRef.of (T := ⟨S128x1, .i32⟩) main_call2_v0) (TRef.of (T := ⟨S128x1, .i1⟩) main_call2_v1) (cmpi .slt),
    TRef.nullary (TRef.of (T := ⟨S_, .i32⟩) main_call2_c_0) (constantI S_ 32 100000#32),
    TRef.unary (TRef.of (T := ⟨S_, .i32⟩) main_call2_c_0) (TRef.of (T := ⟨S128x1, .i32⟩) main_call2_v2) (broadcastInDim S128x1 ![] bcast_S_S128x1),
    TRef.binary (TRef.of (T := ⟨S128x1, .i32⟩) main_v4) (TRef.of (T := ⟨S128x1, .i32⟩) main_call2_v2) (TRef.of (T := ⟨S128x1, .i32⟩) main_call2_v3) addi,
    TRef.ternary (TRef.of (T := ⟨S128x1, .i1⟩) main_call2_v1) (TRef.of (T := ⟨S128x1, .i32⟩) main_call2_v3) (TRef.of (T := ⟨S128x1, .i32⟩) main_v4) (TRef.of (T := ⟨S128x1, .i32⟩) main_call2_v4) select,
    TRef.reshape (TRef.of (T := ⟨S128x1, .i32⟩) main_call2_v4) (TRef.of (T := ⟨S128x1x1, .i32⟩) main_call2_v5) (rfl : (.i32 : EltTy) = .i32) shapeCasts_S128x1_S128x1x1,
    TRef.nullary (TRef.of (T := ⟨S1, .i32⟩) main_call2_c_1) (constantI S1 32 99999#32),
    TRef.nullary (TRef.of (T := ⟨S_, .i32⟩) main_call2_c_2) (constantI S_ 32 0#32),
    TRef.unary (TRef.of (T := ⟨S_, .i32⟩) main_call2_c_2) (TRef.of (T := ⟨S128x1x1, .i32⟩) main_call2_v6) (broadcastInDim S128x1x1 ![] bcast_S_S128x1x1),
    TRef.binary (TRef.of (T := ⟨S128x1x1, .i32⟩) main_call2_v5) (TRef.of (T := ⟨S128x1x1, .i32⟩) main_call2_v6) (TRef.of (T := ⟨S128x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S128x1x1, .i32⟩) main_call2_v9) (broadcastInDim S128x1x1 ![0, 1, 2] bcast_S1x1x1_S128x1x1_0_1_2),
    TRef.binary (TRef.of (T := ⟨S128x1x1, .i32⟩) main_call2_v5) (TRef.of (T := ⟨S128x1x1, .i32⟩) main_call2_v9) (TRef.of (T := ⟨S128x1x1, .i1⟩) main_call2_v10) (cmpi .sle),
    TRef.binary (TRef.of (T := ⟨S128x1x1, .i1⟩) main_call2_v7) (TRef.of (T := ⟨S128x1x1, .i1⟩) main_call2_v10) (TRef.of (T := ⟨S128x1x1, .i1⟩) main_call2_v11) andi,
    TRef.nullary (TRef.of (T := ⟨S_, .i1⟩) main_call2_c_3) (constantI S_ 1 1#1),
    TRef.binary (TRef.of (T := ⟨S128x1x1, .i1⟩) main_call2_v11) (TRef.of (T := ⟨S_, .i1⟩) main_call2_c_3) (TRef.of (T := ⟨S128x1, .i1⟩) main_call2_v12) (fun x v => Host.reduce IntOp.andi x v reducesTo_S128x1x1_S128x1_d2 h_S_),
    TRef.binary (TRef.of (T := ⟨S128x100000, .f32⟩) main_v1) (TRef.of (T := ⟨S128x1x1, .i32⟩) main_call2_v5) (TRef.of (T := ⟨S128x1, .f32⟩) main_call2_v13) (fun x i => Host.gather gather_S128x100000_S128x1x1_S128x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S128x1, .f32⟩) main_call2_v14) (broadcastInDim S128x1 ![] bcast_S_S128x1),
    TRef.ternary (TRef.of (T := ⟨S128x1, .i1⟩) main_call2_v12) (TRef.of (T := ⟨S128x1, .f32⟩) main_call2_v13) (TRef.of (T := ⟨S128x1, .f32⟩) main_call2_v14) (TRef.of (T := ⟨S128x1, .f32⟩) main_v5) select ]

/-- Operations 51 to 56: what computes `main_v8`. -/
def opsCut : List (HloOp τ sig (Elt F)) :=
  [ unary main_v5 main_v6 (broadcastInDim S128x100000 ![0, 1] bcast_S128x1_S128x100000_0_1 : (⟨S128x1, .f32⟩ : BufTy).Contents (Elt F) → (⟨S128x100000, .f32⟩ : BufTy).Contents (Elt F)),
    binary main_v1 main_v6 main_v7 (cmpf .olt : (⟨S128x100000, .f32⟩ : BufTy).Contents (Elt F) → (⟨S128x100000, .f32⟩ : BufTy).Contents (Elt F) → (⟨S128x100000, .i1⟩ : BufTy).Contents (Elt F)),
    nullary main_cst (constant S_ .f32 0xFF800000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S128x100000, .f32⟩) main_call3_v1) (broadcastInDim S128x100000 ![] bcast_S_S128x100000),
    TRef.ternary (TRef.of (T := ⟨S128x100000, .i1⟩) main_v7) (TRef.of (T := ⟨S128x100000, .f32⟩) main_call3_v1) (TRef.of (T := ⟨S128x100000, .f32⟩) main_v1) (TRef.of (T := ⟨S128x100000, .f32⟩) main_v8) select ]

/-- Operations 57 to 70: what computes `main_v19`. -/
def opsProb : List (HloOp τ sig (Elt F)) :=
  [ nullary main_cst_0 (constant S_ .f32 0xFF800000#32),
    binary main_v8 main_cst_0 main_v9 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_1 (constant S_ .f32 0xFF800000#32),
    unary main_cst_1 main_v10 (broadcastInDim S128 ![] bcast_S_S128 : (⟨S_, .f32⟩ : BufTy).Contents (Elt F) → (⟨S128, .f32⟩ : BufTy).Contents (Elt F)),
    binary main_v10 main_v9 main_v11 (maximumf : (⟨S128, .f32⟩ : BufTy).Contents (Elt F) → (⟨S128, .f32⟩ : BufTy).Contents (Elt F) → (⟨S128, .f32⟩ : BufTy).Contents (Elt F)),
    unary main_v11 main_v12 (broadcastInDim S128x1 ![0] bcast_S128_S128x1_0 : (⟨S128, .f32⟩ : BufTy).Contents (Elt F) → (⟨S128x1, .f32⟩ : BufTy).Contents (Elt F)),
    unary main_v12 main_v13 (broadcastInDim S128x100000 ![0, 1] bcast_S128x1_S128x100000_0_1 : (⟨S128x1, .f32⟩ : BufTy).Contents (Elt F) → (⟨S128x100000, .f32⟩ : BufTy).Contents (Elt F)),
    binary main_v8 main_v13 main_v14 (subf : (⟨S128x100000, .f32⟩ : BufTy).Contents (Elt F) → (⟨S128x100000, .f32⟩ : BufTy).Contents (Elt F) → (⟨S128x100000, .f32⟩ : BufTy).Contents (Elt F)),
    unary main_v14 main_v15 (Host.exp : (⟨S128x100000, .f32⟩ : BufTy).Contents (Elt F) → (⟨S128x100000, .f32⟩ : BufTy).Contents (Elt F)),
    nullary main_cst_2 (constant S_ .f32 0x00000000#32),
    binary main_v15 main_cst_2 main_v16 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v16 main_v17 (broadcastInDim S128x1 ![0] bcast_S128_S128x1_0 : (⟨S128, .f32⟩ : BufTy).Contents (Elt F) → (⟨S128x1, .f32⟩ : BufTy).Contents (Elt F)),
    unary main_v17 main_v18 (broadcastInDim S128x100000 ![0, 1] bcast_S128x1_S128x100000_0_1 : (⟨S128x1, .f32⟩ : BufTy).Contents (Elt F) → (⟨S128x100000, .f32⟩ : BufTy).Contents (Elt F)),
    binary main_v15 main_v18 main_v19 (Host.divf : (⟨S128x100000, .f32⟩ : BufTy).Contents (Elt F) → (⟨S128x100000, .f32⟩ : BufTy).Contents (Elt F) → (⟨S128x100000, .f32⟩ : BufTy).Contents (Elt F)) ]

/-- Operations 71 to 73: what computes `main_v20`. -/
def opsCum : List (HloOp τ sig (Elt F)) :=
  [ TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S128x100000, .f32⟩) main_v19) (TRef.of (T := ⟨S_, .f32⟩) main_call4_call0_v0) (TRef.of (T := ⟨S128x100000, .f32⟩) main_v20) (fun x v => Host.reduceWindowAdd ![1, 100000] ![1, 1] ![0, 99999] ![0, 0] x v reduceWindows_S128x100000_S128x100000_w1s1p0_0_w100000s1p99999_0 h_S_) ]

/-- Operations 74 to 79: what computes `main_v25`. -/
def opsDrop : List (HloOp τ sig (Elt F)) :=
  [ nullary main_cst_3 (constant S_ .f32 0x3F800000#32),
    unary main_cst_3 main_v21 (broadcastInDim S128 ![] bcast_S_S128 : (⟨S_, .f32⟩ : BufTy).Contents (Elt F) → (⟨S128, .f32⟩ : BufTy).Contents (Elt F)),
    binary main_v21 main_arg2 main_v22 (subf : (⟨S128, .f32⟩ : BufTy).Contents (Elt F) → (⟨S128, .f32⟩ : BufTy).Contents (Elt F) → (⟨S128, .f32⟩ : BufTy).Contents (Elt F)),
    unary main_v22 main_v23 (broadcastInDim S128x1 ![0] bcast_S128_S128x1_0 : (⟨S128, .f32⟩ : BufTy).Contents (Elt F) → (⟨S128x1, .f32⟩ : BufTy).Contents (Elt F)),
    unary main_v23 main_v24 (broadcastInDim S128x100000 ![0, 1] bcast_S128x1_S128x100000_0_1 : (⟨S128x1, .f32⟩ : BufTy).Contents (Elt F) → (⟨S128x100000, .f32⟩ : BufTy).Contents (Elt F)),
    binary main_v20 main_v24 main_v25 (cmpf .ole : (⟨S128x100000, .f32⟩ : BufTy).Contents (Elt F) → (⟨S128x100000, .f32⟩ : BufTy).Contents (Elt F) → (⟨S128x100000, .i1⟩ : BufTy).Contents (Elt F)) ]

/-- Operations 80 to 88: what computes `main_v29`. -/
def opsKeep : List (HloOp τ sig (Elt F)) :=
  [ nullary main_c_4 (constantI S_ 32 99999#32),
    unary main_c_4 main_v26 (broadcastInDim S1 ![] bcast_S_S1 : (⟨S_, .i32⟩ : BufTy).Contents (Elt F) → (⟨S1, .i32⟩ : BufTy).Contents (Elt F)),
    nullary main_c_5 (constantI S_ 1 0#1),
    unary main_c_5 main_v27 (broadcastInDim S128 ![] bcast_S_S128 : (⟨S_, .i1⟩ : BufTy).Contents (Elt F) → (⟨S128, .i1⟩ : BufTy).Contents (Elt F)),
    ternary main_v25 main_v26 main_v27 main_v28 ((fun x i u => Host.scatter scatter_S128x100000_S1_S128_0_1_1_0 (fun _ b => b) x i u) : (⟨S128x100000, .i1⟩ : BufTy).Contents (Elt F) → (⟨S1, .i32⟩ : BufTy).Contents (Elt F) → (⟨S128, .i1⟩ : BufTy).Contents (Elt F) → (⟨S128x100000, .i1⟩ : BufTy).Contents (Elt F)),
    nullary main_cst_6 (constant S_ .f32 0xFF800000#32),
    TRef.unary (TRef.of (T := ⟨S_, .f32⟩) main_cst_6) (TRef.of (T := ⟨S_, .f32⟩) main_call5_v0) id,
    TRef.unary (TRef.of (T := ⟨S_, .f32⟩) main_call5_v0) (TRef.of (T := ⟨S128x100000, .f32⟩) main_call5_v1) (broadcastInDim S128x100000 ![] bcast_S_S128x100000),
    TRef.ternary (TRef.of (T := ⟨S128x100000, .i1⟩) main_v28) (TRef.of (T := ⟨S128x100000, .f32⟩) main_call5_v1) (TRef.of (T := ⟨S128x100000, .f32⟩) main_v8) (TRef.of (T := ⟨S128x100000, .f32⟩) main_v29) select ]

/-- Operations 89 to 91: what computes `main_v30`. -/
def opsInverse : List (HloOp τ sig (Elt F)) :=
  [ TRef.nullary (TRef.of (T := ⟨S128x100000, .i32⟩) main_call6_v0) (iotaInDim S128x100000 32 1),
    TRef.binary (TRef.of (T := ⟨S128x100000, .i32⟩) main_v0) (TRef.of (T := ⟨S128x100000, .i32⟩) main_call6_v0) (TRef.of (T := ⟨S128x100000, .i32⟩) main_call6_v1_0) (fun x y => (Host.sort2 S128x100000 1 comparator_i32_i32_d1 x y).1),
    TRef.binary (TRef.of (T := ⟨S128x100000, .i32⟩) main_v0) (TRef.of (T := ⟨S128x100000, .i32⟩) main_call6_v0) (TRef.of (T := ⟨S128x100000, .i32⟩) main_v30) (fun x y => (Host.sort2 S128x100000 1 comparator_i32_i32_d1 x y).2) ]

/-- Operations 92 to 113: what computes `main_v31`. -/
def opsBack : List (HloOp τ sig (Elt F)) :=
  [ TRef.nullary (TRef.of (T := ⟨S_, .i32⟩) main_call7_c) (constantI S_ 32 0#32),
    TRef.unary (TRef.of (T := ⟨S_, .i32⟩) main_call7_c) (TRef.of (T := ⟨S128x100000, .i32⟩) main_call7_v0) (broadcastInDim S128x100000 ![] bcast_S_S128x100000),
    TRef.binary (TRef.of (T := ⟨S128x100000, .i32⟩) main_v30) (TRef.of (T := ⟨S128x100000, .i32⟩) main_call7_v0) (TRef.of (T := ⟨S128x100000, .i1⟩) main_call7_v1) (cmpi .slt),
    TRef.nullary (TRef.of (T := ⟨S_, .i32⟩) main_call7_c_0) (constantI S_ 32 100000#32),
    TRef.unary (TRef.of (T := ⟨S_, .i32⟩) main_call7_c_0) (TRef.of (T := ⟨S128x100000, .i32⟩) main_call7_v2) (broadcastInDim S128x100000 ![] bcast_S_S128x100000),
    TRef.binary (TRef.of (T := ⟨S128x100000, .i32⟩) main_v30) (TRef.of (T := ⟨S128x100000, .i32⟩) main_call7_v2) (TRef.of (T := ⟨S128x100000, .i32⟩) main_call7_v3) addi,
    TRef.ternary (TRef.of (T := ⟨S128x100000, .i1⟩) main_call7_v1) (TRef.of (T := ⟨S128x100000, .i32⟩) main_call7_v3) (TRef.of (T := ⟨S128x100000, .i32⟩) main_v30) (TRef.of (T := ⟨S128x100000, .i32⟩) main_call7_v4) select,
    TRef.reshape (TRef.of (T := ⟨S128x100000, .i32⟩) main_call7_v4) (TRef.of (T := ⟨S128x100000x1, .i32⟩) main_call7_v5) (rfl : (.i32 : EltTy) = .i32) shapeCasts_S128x100000_S128x100000x1,
    TRef.nullary (TRef.of (T := ⟨S1, .i32⟩) main_call7_c_1) (constantI S1 32 99999#32),
    TRef.nullary (TRef.of (T := ⟨S_, .i32⟩) main_call7_c_2) (constantI S_ 32 0#32),
    TRef.unary (TRef.of (T := ⟨S_, .i32⟩) main_call7_c_2) (TRef.of (T := ⟨S128x100000x1, .i32⟩) main_call7_v6) (broadcastInDim S128x100000x1 ![] bcast_S_S128x100000x1),
    TRef.binary (TRef.of (T := ⟨S128x100000x1, .i32⟩) main_call7_v5) (TRef.of (T := ⟨S128x100000x1, .i32⟩) main_call7_v6) (TRef.of (T := ⟨S128x100000x1, .i1⟩) main_call7_v7) (cmpi .sge),
    TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S128x100000x1, .i32⟩) main_call7_v9) (broadcastInDim S128x100000x1 ![0, 1, 2] bcast_S1x1x1_S128x100000x1_0_1_2),
    TRef.binary (TRef.of (T := ⟨S128x100000x1, .i32⟩) main_call7_v5) (TRef.of (T := ⟨S128x100000x1, .i32⟩) main_call7_v9) (TRef.of (T := ⟨S128x100000x1, .i1⟩) main_call7_v10) (cmpi .sle),
    TRef.binary (TRef.of (T := ⟨S128x100000x1, .i1⟩) main_call7_v7) (TRef.of (T := ⟨S128x100000x1, .i1⟩) main_call7_v10) (TRef.of (T := ⟨S128x100000x1, .i1⟩) main_call7_v11) andi,
    TRef.nullary (TRef.of (T := ⟨S_, .i1⟩) main_call7_c_3) (constantI S_ 1 1#1),
    TRef.binary (TRef.of (T := ⟨S128x100000x1, .i1⟩) main_call7_v11) (TRef.of (T := ⟨S_, .i1⟩) main_call7_c_3) (TRef.of (T := ⟨S128x100000, .i1⟩) main_call7_v12) (fun x v => Host.reduce IntOp.andi x v reducesTo_S128x100000x1_S128x100000_d2 h_S_),
    TRef.binary (TRef.of (T := ⟨S128x100000, .f32⟩) main_v29) (TRef.of (T := ⟨S128x100000x1, .i32⟩) main_call7_v5) (TRef.of (T := ⟨S128x100000, .f32⟩) main_call7_v13) (fun x i => Host.gather gather_S128x100000_S128x100000x1_S128x100000_n_1_0_0_1_2_11 x i),
    TRef.nullary (TRef.of (T := ⟨S_, .f32⟩) main_call7_cst) (constant S_ .f32 0x7FC00000#32),
    TRef.unary (TRef.of (T := ⟨S_, .f32⟩) main_call7_cst) (TRef.of (T := ⟨S128x100000, .f32⟩) main_call7_v14) (broadcastInDim S128x100000 ![] bcast_S_S128x100000),
    TRef.ternary (TRef.of (T := ⟨S128x100000, .i1⟩) main_call7_v12) (TRef.of (T := ⟨S128x100000, .f32⟩) main_call7_v13) (TRef.of (T := ⟨S128x100000, .f32⟩) main_call7_v14) (TRef.of (T := ⟨S128x100000, .f32⟩) main_v31) select ]

/-- Operations 114 to 127: what computes `main_v42`. -/
def opsFinal : List (HloOp τ sig (Elt F)) :=
  [ nullary main_cst_7 (constant S_ .f32 0xFF800000#32),
    binary main_v31 main_cst_7 main_v32 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_8 (constant S_ .f32 0xFF800000#32),
    unary main_cst_8 main_v33 (broadcastInDim S128 ![] bcast_S_S128 : (⟨S_, .f32⟩ : BufTy).Contents (Elt F) → (⟨S128, .f32⟩ : BufTy).Contents (Elt F)),
    binary main_v33 main_v32 main_v34 (maximumf : (⟨S128, .f32⟩ : BufTy).Contents (Elt F) → (⟨S128, .f32⟩ : BufTy).Contents (Elt F) → (⟨S128, .f32⟩ : BufTy).Contents (Elt F)),
    unary main_v34 main_v35 (broadcastInDim S128x1 ![0] bcast_S128_S128x1_0 : (⟨S128, .f32⟩ : BufTy).Contents (Elt F) → (⟨S128x1, .f32⟩ : BufTy).Contents (Elt F)),
    unary main_v35 main_v36 (broadcastInDim S128x100000 ![0, 1] bcast_S128x1_S128x100000_0_1 : (⟨S128x1, .f32⟩ : BufTy).Contents (Elt F) → (⟨S128x100000, .f32⟩ : BufTy).Contents (Elt F)),
    binary main_v31 main_v36 main_v37 (subf : (⟨S128x100000, .f32⟩ : BufTy).Contents (Elt F) → (⟨S128x100000, .f32⟩ : BufTy).Contents (Elt F) → (⟨S128x100000, .f32⟩ : BufTy).Contents (Elt F)),
    unary main_v37 main_v38 (Host.exp : (⟨S128x100000, .f32⟩ : BufTy).Contents (Elt F) → (⟨S128x100000, .f32⟩ : BufTy).Contents (Elt F)),
    nullary main_cst_9 (constant S_ .f32 0x00000000#32),
    binary main_v38 main_cst_9 main_v39 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v39 main_v40 (broadcastInDim S128x1 ![0] bcast_S128_S128x1_0 : (⟨S128, .f32⟩ : BufTy).Contents (Elt F) → (⟨S128x1, .f32⟩ : BufTy).Contents (Elt F)),
    unary main_v40 main_v41 (broadcastInDim S128x100000 ![0, 1] bcast_S128x1_S128x100000_0_1 : (⟨S128x1, .f32⟩ : BufTy).Contents (Elt F) → (⟨S128x100000, .f32⟩ : BufTy).Contents (Elt F)),
    binary main_v38 main_v41 main_v42 (Host.divf : (⟨S128x100000, .f32⟩ : BufTy).Contents (Elt F) → (⟨S128x100000, .f32⟩ : BufTy).Contents (Elt F) → (⟨S128x100000, .f32⟩ : BufTy).Contents (Elt F)) ]

/-- Operations 128 to 128: what computes `main_v43`. -/
def opsScore : List (HloOp τ sig (Elt F)) :=
  [ binary main_v42 main_arg3 main_v43 (Host.divf : (⟨S128x100000, .f32⟩ : BufTy).Contents (Elt F) → (⟨S128x100000, .f32⟩ : BufTy).Contents (Elt F) → (⟨S128x100000, .f32⟩ : BufTy).Contents (Elt F)) ]

/-- Operations 129 to 134: what computes `main_v45`. -/
def opsPickWith (f : FVec F S128x100000 .f32 → IVec S128x100000 32 → FVec F S_ .f32 → IVec S_ 32 → FVec F S128 .f32)
    (g : FVec F S128x100000 .f32 → IVec S128x100000 32 → FVec F S_ .f32 → IVec S_ 32 → IVec S128 32) : List (HloOp τ sig (Elt F)) :=
  [ TRef.nullary (TRef.of (T := ⟨S128x100000, .i32⟩) main_call8_v0) (iotaInDim S128x100000 32 1),
    TRef.nullary (TRef.of (T := ⟨S_, .f32⟩) main_call8_cst) (constant S_ .f32 0xFF800000#32),
    TRef.nullary (TRef.of (T := ⟨S_, .i32⟩) main_call8_c) (constantI S_ 32 0#32),
    TRef.quaternary (TRef.of (T := ⟨S128x100000, .f32⟩) main_v43) (TRef.of (T := ⟨S128x100000, .i32⟩) main_call8_v0) (TRef.of (T := ⟨S_, .f32⟩) main_call8_cst) (TRef.of (T := ⟨S_, .i32⟩) main_call8_c) (TRef.of (T := ⟨S128, .f32⟩) main_call8_v1_0) f,
    TRef.quaternary (TRef.of (T := ⟨S128x100000, .f32⟩) main_v43) (TRef.of (T := ⟨S128x100000, .i32⟩) main_call8_v0) (TRef.of (T := ⟨S_, .f32⟩) main_call8_cst) (TRef.of (T := ⟨S_, .i32⟩) main_call8_c) (TRef.of (T := ⟨S128, .i32⟩) main_v44) g,
    reshape main_v44 main_v45 (rfl : (.i32 : EltTy) = .i32) shapeCasts_S128_S128x1 ]

def opsPick : List (HloOp τ sig (Elt F)) :=
  opsPickWith (fun x y u v j => (Host.argReduce reducer_argmax_f32_i32 x y u v reducesTo_S128x100000_S128_d1 h_S_ j).1)
    (fun x y u v j => (Host.argReduce reducer_argmax_f32_i32 x y u v reducesTo_S128x100000_S128_d1 h_S_ j).2)

set_option maxRecDepth 8192 in
theorem subOrder : (opsOrder : List (HloOp τ sig (Elt F))).Forall fun op => op.bufs ⊆ tcRefs τ sig :=
  ⟨nullary_bufs_sub .., binary_bufs_sub .., binary_bufs_sub ..⟩

set_option maxRecDepth 8192 in
theorem subSorted : (opsSorted : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

set_option maxRecDepth 8192 in
theorem subThresh : (opsThresh : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

set_option maxRecDepth 8192 in
theorem subCut : (opsCut : List (HloOp τ sig (Elt F))).Forall fun op => op.bufs ⊆ tcRefs τ sig :=
  ⟨unary_bufs_sub .., binary_bufs_sub .., nullary_bufs_sub .., unary_bufs_sub .., unary_bufs_sub .., ternary_bufs_sub ..⟩

set_option maxRecDepth 8192 in
theorem subProb : (opsProb : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
theorem subCum : (opsCum : List (HloOp τ sig (Elt F))).Forall fun op => op.bufs ⊆ tcRefs τ sig :=
  ⟨nullary_bufs_sub .., unary_bufs_sub .., binary_bufs_sub ..⟩

set_option maxRecDepth 8192 in
theorem subDrop : (opsDrop : List (HloOp τ sig (Elt F))).Forall fun op => op.bufs ⊆ tcRefs τ sig :=
  ⟨nullary_bufs_sub .., unary_bufs_sub .., binary_bufs_sub .., unary_bufs_sub .., unary_bufs_sub .., binary_bufs_sub ..⟩

set_option maxRecDepth 8192 in
theorem subKeep : (opsKeep : List (HloOp τ sig (Elt F))).Forall fun op => op.bufs ⊆ tcRefs τ sig :=
  ⟨nullary_bufs_sub .., unary_bufs_sub .., nullary_bufs_sub .., unary_bufs_sub .., ternary_bufs_sub .., nullary_bufs_sub .., unary_bufs_sub .., unary_bufs_sub .., ternary_bufs_sub ..⟩

set_option maxRecDepth 8192 in
theorem subInverse : (opsInverse : List (HloOp τ sig (Elt F))).Forall fun op => op.bufs ⊆ tcRefs τ sig :=
  ⟨nullary_bufs_sub .., binary_bufs_sub .., binary_bufs_sub ..⟩

set_option maxRecDepth 8192 in
theorem subBack : (opsBack : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

set_option maxRecDepth 8192 in
theorem subFinal : (opsFinal : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
theorem subScore : (opsScore : List (HloOp τ sig (Elt F))).Forall fun op => op.bufs ⊆ tcRefs τ sig :=
  binary_bufs_sub ..

set_option maxRecDepth 8192 in
theorem subPick : (opsPick : List (HloOp τ sig (Elt F))).Forall fun op => op.bufs ⊆ tcRefs τ sig :=
  ⟨nullary_bufs_sub .., nullary_bufs_sub .., nullary_bufs_sub .., quaternary_bufs_sub .., quaternary_bufs_sub .., reshape_bufs_sub ..⟩

set_option maxRecDepth 8192 in
set_option maxHeartbeats 4000000 in
theorem atOrder (V : Valuation τ sig (Elt F)) :
    after (opsOrder (F := F)) V (no_index (Proc.devRef .tc main_v0)) = order (F := F) (V (Proc.devRef .tc main_arg0)) := by
  simp only [opsOrder, TRef.binary, TRef.nullary, TRef.quaternary, TRef.reshape, TRef.ternary, TRef.unary, TRef.toBuf, TRef.ofBuf, cast_eq]; after_results_simp <;> rfl

theorem keepOrder_main_arg0 (V : Valuation τ sig (Elt F)) :
    after (opsOrder (F := F)) V (no_index (Proc.devRef .tc main_arg0)) = V (Proc.devRef .tc main_arg0) := by
  after_reads_simp

theorem keepOrder_main_arg1 (V : Valuation τ sig (Elt F)) :
    after (opsOrder (F := F)) V (no_index (Proc.devRef .tc main_arg1)) = V (Proc.devRef .tc main_arg1) := by
  after_reads_simp

theorem keepOrder_main_arg2 (V : Valuation τ sig (Elt F)) :
    after (opsOrder (F := F)) V (no_index (Proc.devRef .tc main_arg2)) = V (Proc.devRef .tc main_arg2) := by
  after_reads_simp

theorem keepOrder_main_arg3 (V : Valuation τ sig (Elt F)) :
    after (opsOrder (F := F)) V (no_index (Proc.devRef .tc main_arg3)) = V (Proc.devRef .tc main_arg3) := by
  after_reads_simp

set_option maxRecDepth 8192 in
set_option maxHeartbeats 4000000 in
theorem atSorted (V : Valuation τ sig (Elt F)) :
    after (opsSorted (F := F)) V (no_index (Proc.devRef .tc main_v1)) = along (F := F) (V (Proc.devRef .tc main_arg0)) (V (Proc.devRef .tc main_v0)) := by
  simp only [opsSorted, TRef.binary, TRef.nullary, TRef.quaternary, TRef.reshape, TRef.ternary, TRef.unary, TRef.toBuf, TRef.ofBuf, cast_eq]; after_results_simp <;> rfl

theorem keepSorted_main_arg0 (V : Valuation τ sig (Elt F)) :
    after (opsSorted (F := F)) V (no_index (Proc.devRef .tc main_arg0)) = V (Proc.devRef .tc main_arg0) := by
  after_reads_simp

theorem keepSorted_main_arg1 (V : Valuation τ sig (Elt F)) :
    after (opsSorted (F := F)) V (no_index (Proc.devRef .tc main_arg1)) = V (Proc.devRef .tc main_arg1) := by
  after_reads_simp

theorem keepSorted_main_arg2 (V : Valuation τ sig (Elt F)) :
    after (opsSorted (F := F)) V (no_index (Proc.devRef .tc main_arg2)) = V (Proc.devRef .tc main_arg2) := by
  after_reads_simp

theorem keepSorted_main_arg3 (V : Valuation τ sig (Elt F)) :
    after (opsSorted (F := F)) V (no_index (Proc.devRef .tc main_arg3)) = V (Proc.devRef .tc main_arg3) := by
  after_reads_simp

theorem keepSorted_main_v0 (V : Valuation τ sig (Elt F)) :
    after (opsSorted (F := F)) V (no_index (Proc.devRef .tc main_v0)) = V (Proc.devRef .tc main_v0) := by
  after_reads_simp

set_option maxRecDepth 8192 in
set_option maxHeartbeats 4000000 in
theorem atThresh (V : Valuation τ sig (Elt F)) :
    after (opsThresh (F := F)) V (no_index (Proc.devRef .tc main_v5)) = alongOne (F := F) (V (Proc.devRef .tc main_v1)) (kth (V (Proc.devRef .tc main_arg1))) := by
  simp only [opsThresh, TRef.binary, TRef.nullary, TRef.quaternary, TRef.reshape, TRef.ternary, TRef.unary, TRef.toBuf, TRef.ofBuf, cast_eq]; after_results_simp <;> rfl

theorem keepThresh_main_arg0 (V : Valuation τ sig (Elt F)) :
    after (opsThresh (F := F)) V (no_index (Proc.devRef .tc main_arg0)) = V (Proc.devRef .tc main_arg0) := by
  after_reads_simp

theorem keepThresh_main_arg1 (V : Valuation τ sig (Elt F)) :
    after (opsThresh (F := F)) V (no_index (Proc.devRef .tc main_arg1)) = V (Proc.devRef .tc main_arg1) := by
  after_reads_simp

theorem keepThresh_main_arg2 (V : Valuation τ sig (Elt F)) :
    after (opsThresh (F := F)) V (no_index (Proc.devRef .tc main_arg2)) = V (Proc.devRef .tc main_arg2) := by
  after_reads_simp

theorem keepThresh_main_arg3 (V : Valuation τ sig (Elt F)) :
    after (opsThresh (F := F)) V (no_index (Proc.devRef .tc main_arg3)) = V (Proc.devRef .tc main_arg3) := by
  after_reads_simp

theorem keepThresh_main_v0 (V : Valuation τ sig (Elt F)) :
    after (opsThresh (F := F)) V (no_index (Proc.devRef .tc main_v0)) = V (Proc.devRef .tc main_v0) := by
  after_reads_simp

theorem keepThresh_main_v1 (V : Valuation τ sig (Elt F)) :
    after (opsThresh (F := F)) V (no_index (Proc.devRef .tc main_v1)) = V (Proc.devRef .tc main_v1) := by
  after_reads_simp

set_option maxRecDepth 8192 in
set_option maxHeartbeats 4000000 in
theorem atCut (V : Valuation τ sig (Elt F)) :
    after (opsCut (F := F)) V (no_index (Proc.devRef .tc main_v8)) = cut (F := F) (V (Proc.devRef .tc main_v1)) (V (Proc.devRef .tc main_v5)) := by
  simp only [opsCut, TRef.binary, TRef.nullary, TRef.quaternary, TRef.reshape, TRef.ternary, TRef.unary, TRef.toBuf, TRef.ofBuf, cast_eq]; after_results_simp <;> rfl

theorem keepCut_main_arg0 (V : Valuation τ sig (Elt F)) :
    after (opsCut (F := F)) V (no_index (Proc.devRef .tc main_arg0)) = V (Proc.devRef .tc main_arg0) := by
  after_reads_simp

theorem keepCut_main_arg1 (V : Valuation τ sig (Elt F)) :
    after (opsCut (F := F)) V (no_index (Proc.devRef .tc main_arg1)) = V (Proc.devRef .tc main_arg1) := by
  after_reads_simp

theorem keepCut_main_arg2 (V : Valuation τ sig (Elt F)) :
    after (opsCut (F := F)) V (no_index (Proc.devRef .tc main_arg2)) = V (Proc.devRef .tc main_arg2) := by
  after_reads_simp

theorem keepCut_main_arg3 (V : Valuation τ sig (Elt F)) :
    after (opsCut (F := F)) V (no_index (Proc.devRef .tc main_arg3)) = V (Proc.devRef .tc main_arg3) := by
  after_reads_simp

theorem keepCut_main_v0 (V : Valuation τ sig (Elt F)) :
    after (opsCut (F := F)) V (no_index (Proc.devRef .tc main_v0)) = V (Proc.devRef .tc main_v0) := by
  after_reads_simp

set_option maxRecDepth 8192 in
set_option maxHeartbeats 4000000 in
theorem atProb (V : Valuation τ sig (Elt F)) :
    after (opsProb (F := F)) V (no_index (Proc.devRef .tc main_v19)) = softmax (F := F) (V (Proc.devRef .tc main_v8)) := by
  simp only [opsProb, TRef.binary, TRef.nullary, TRef.quaternary, TRef.reshape, TRef.ternary, TRef.unary, TRef.toBuf, TRef.ofBuf, cast_eq]; after_results_simp <;> rfl

theorem keepProb_main_arg0 (V : Valuation τ sig (Elt F)) :
    after (opsProb (F := F)) V (no_index (Proc.devRef .tc main_arg0)) = V (Proc.devRef .tc main_arg0) := by
  after_reads_simp

theorem keepProb_main_arg1 (V : Valuation τ sig (Elt F)) :
    after (opsProb (F := F)) V (no_index (Proc.devRef .tc main_arg1)) = V (Proc.devRef .tc main_arg1) := by
  after_reads_simp

theorem keepProb_main_arg2 (V : Valuation τ sig (Elt F)) :
    after (opsProb (F := F)) V (no_index (Proc.devRef .tc main_arg2)) = V (Proc.devRef .tc main_arg2) := by
  after_reads_simp

theorem keepProb_main_arg3 (V : Valuation τ sig (Elt F)) :
    after (opsProb (F := F)) V (no_index (Proc.devRef .tc main_arg3)) = V (Proc.devRef .tc main_arg3) := by
  after_reads_simp

theorem keepProb_main_v0 (V : Valuation τ sig (Elt F)) :
    after (opsProb (F := F)) V (no_index (Proc.devRef .tc main_v0)) = V (Proc.devRef .tc main_v0) := by
  after_reads_simp

theorem keepProb_main_v8 (V : Valuation τ sig (Elt F)) :
    after (opsProb (F := F)) V (no_index (Proc.devRef .tc main_v8)) = V (Proc.devRef .tc main_v8) := by
  after_reads_simp

set_option maxRecDepth 8192 in
set_option maxHeartbeats 4000000 in
theorem atCum (V : Valuation τ sig (Elt F)) :
    after (opsCum (F := F)) V (no_index (Proc.devRef .tc main_v20)) = cumsum (F := F) (V (Proc.devRef .tc main_v19)) := by
  simp only [opsCum, TRef.binary, TRef.nullary, TRef.quaternary, TRef.reshape, TRef.ternary, TRef.unary, TRef.toBuf, TRef.ofBuf, cast_eq]; after_results_simp <;> rfl

theorem keepCum_main_arg0 (V : Valuation τ sig (Elt F)) :
    after (opsCum (F := F)) V (no_index (Proc.devRef .tc main_arg0)) = V (Proc.devRef .tc main_arg0) := by
  after_reads_simp

theorem keepCum_main_arg1 (V : Valuation τ sig (Elt F)) :
    after (opsCum (F := F)) V (no_index (Proc.devRef .tc main_arg1)) = V (Proc.devRef .tc main_arg1) := by
  after_reads_simp

theorem keepCum_main_arg2 (V : Valuation τ sig (Elt F)) :
    after (opsCum (F := F)) V (no_index (Proc.devRef .tc main_arg2)) = V (Proc.devRef .tc main_arg2) := by
  after_reads_simp

theorem keepCum_main_arg3 (V : Valuation τ sig (Elt F)) :
    after (opsCum (F := F)) V (no_index (Proc.devRef .tc main_arg3)) = V (Proc.devRef .tc main_arg3) := by
  after_reads_simp

theorem keepCum_main_v0 (V : Valuation τ sig (Elt F)) :
    after (opsCum (F := F)) V (no_index (Proc.devRef .tc main_v0)) = V (Proc.devRef .tc main_v0) := by
  after_reads_simp

theorem keepCum_main_v8 (V : Valuation τ sig (Elt F)) :
    after (opsCum (F := F)) V (no_index (Proc.devRef .tc main_v8)) = V (Proc.devRef .tc main_v8) := by
  after_reads_simp

set_option maxRecDepth 8192 in
set_option maxHeartbeats 4000000 in
theorem atDrop (V : Valuation τ sig (Elt F)) :
    after (opsDrop (F := F)) V (no_index (Proc.devRef .tc main_v25)) = low (F := F) (V (Proc.devRef .tc main_v20)) (V (Proc.devRef .tc main_arg2)) := by
  simp only [opsDrop, TRef.binary, TRef.nullary, TRef.quaternary, TRef.reshape, TRef.ternary, TRef.unary, TRef.toBuf, TRef.ofBuf, cast_eq]; after_results_simp <;> rfl

theorem keepDrop_main_arg0 (V : Valuation τ sig (Elt F)) :
    after (opsDrop (F := F)) V (no_index (Proc.devRef .tc main_arg0)) = V (Proc.devRef .tc main_arg0) := by
  after_reads_simp

theorem keepDrop_main_arg1 (V : Valuation τ sig (Elt F)) :
    after (opsDrop (F := F)) V (no_index (Proc.devRef .tc main_arg1)) = V (Proc.devRef .tc main_arg1) := by
  after_reads_simp

theorem keepDrop_main_arg2 (V : Valuation τ sig (Elt F)) :
    after (opsDrop (F := F)) V (no_index (Proc.devRef .tc main_arg2)) = V (Proc.devRef .tc main_arg2) := by
  after_reads_simp

theorem keepDrop_main_arg3 (V : Valuation τ sig (Elt F)) :
    after (opsDrop (F := F)) V (no_index (Proc.devRef .tc main_arg3)) = V (Proc.devRef .tc main_arg3) := by
  after_reads_simp

theorem keepDrop_main_v0 (V : Valuation τ sig (Elt F)) :
    after (opsDrop (F := F)) V (no_index (Proc.devRef .tc main_v0)) = V (Proc.devRef .tc main_v0) := by
  after_reads_simp

theorem keepDrop_main_v8 (V : Valuation τ sig (Elt F)) :
    after (opsDrop (F := F)) V (no_index (Proc.devRef .tc main_v8)) = V (Proc.devRef .tc main_v8) := by
  after_reads_simp

set_option maxRecDepth 8192 in
set_option maxHeartbeats 4000000 in
theorem atKeep (V : Valuation τ sig (Elt F)) :
    after (opsKeep (F := F)) V (no_index (Proc.devRef .tc main_v29)) = cutTail (F := F) (dropped (V (Proc.devRef .tc main_v25))) (V (Proc.devRef .tc main_v8)) := by
  simp only [opsKeep, TRef.binary, TRef.nullary, TRef.quaternary, TRef.reshape, TRef.ternary, TRef.unary, TRef.toBuf, TRef.ofBuf, cast_eq]; after_results_simp <;> rfl

theorem keepKeep_main_arg0 (V : Valuation τ sig (Elt F)) :
    after (opsKeep (F := F)) V (no_index (Proc.devRef .tc main_arg0)) = V (Proc.devRef .tc main_arg0) := by
  after_reads_simp

theorem keepKeep_main_arg1 (V : Valuation τ sig (Elt F)) :
    after (opsKeep (F := F)) V (no_index (Proc.devRef .tc main_arg1)) = V (Proc.devRef .tc main_arg1) := by
  after_reads_simp

theorem keepKeep_main_arg2 (V : Valuation τ sig (Elt F)) :
    after (opsKeep (F := F)) V (no_index (Proc.devRef .tc main_arg2)) = V (Proc.devRef .tc main_arg2) := by
  after_reads_simp

theorem keepKeep_main_arg3 (V : Valuation τ sig (Elt F)) :
    after (opsKeep (F := F)) V (no_index (Proc.devRef .tc main_arg3)) = V (Proc.devRef .tc main_arg3) := by
  after_reads_simp

theorem keepKeep_main_v0 (V : Valuation τ sig (Elt F)) :
    after (opsKeep (F := F)) V (no_index (Proc.devRef .tc main_v0)) = V (Proc.devRef .tc main_v0) := by
  after_reads_simp

set_option maxRecDepth 8192 in
set_option maxHeartbeats 4000000 in
theorem atInverse (V : Valuation τ sig (Elt F)) :
    after (opsInverse (F := F)) V (no_index (Proc.devRef .tc main_v30)) = orderI (V (Proc.devRef .tc main_v0)) := by
  simp only [opsInverse, TRef.binary, TRef.nullary, TRef.quaternary, TRef.reshape, TRef.ternary, TRef.unary, TRef.toBuf, TRef.ofBuf, cast_eq]; after_results_simp <;> rfl

theorem keepInverse_main_arg0 (V : Valuation τ sig (Elt F)) :
    after (opsInverse (F := F)) V (no_index (Proc.devRef .tc main_arg0)) = V (Proc.devRef .tc main_arg0) := by
  after_reads_simp

theorem keepInverse_main_arg1 (V : Valuation τ sig (Elt F)) :
    after (opsInverse (F := F)) V (no_index (Proc.devRef .tc main_arg1)) = V (Proc.devRef .tc main_arg1) := by
  after_reads_simp

theorem keepInverse_main_arg2 (V : Valuation τ sig (Elt F)) :
    after (opsInverse (F := F)) V (no_index (Proc.devRef .tc main_arg2)) = V (Proc.devRef .tc main_arg2) := by
  after_reads_simp

theorem keepInverse_main_arg3 (V : Valuation τ sig (Elt F)) :
    after (opsInverse (F := F)) V (no_index (Proc.devRef .tc main_arg3)) = V (Proc.devRef .tc main_arg3) := by
  after_reads_simp

theorem keepInverse_main_v29 (V : Valuation τ sig (Elt F)) :
    after (opsInverse (F := F)) V (no_index (Proc.devRef .tc main_v29)) = V (Proc.devRef .tc main_v29) := by
  after_reads_simp

set_option maxRecDepth 8192 in
set_option maxHeartbeats 4000000 in
theorem atBack (V : Valuation τ sig (Elt F)) :
    after (opsBack (F := F)) V (no_index (Proc.devRef .tc main_v31)) = along (F := F) (V (Proc.devRef .tc main_v29)) (V (Proc.devRef .tc main_v30)) := by
  simp only [opsBack, TRef.binary, TRef.nullary, TRef.quaternary, TRef.reshape, TRef.ternary, TRef.unary, TRef.toBuf, TRef.ofBuf, cast_eq]; after_results_simp <;> rfl

theorem keepBack_main_arg0 (V : Valuation τ sig (Elt F)) :
    after (opsBack (F := F)) V (no_index (Proc.devRef .tc main_arg0)) = V (Proc.devRef .tc main_arg0) := by
  after_reads_simp

theorem keepBack_main_arg1 (V : Valuation τ sig (Elt F)) :
    after (opsBack (F := F)) V (no_index (Proc.devRef .tc main_arg1)) = V (Proc.devRef .tc main_arg1) := by
  after_reads_simp

theorem keepBack_main_arg2 (V : Valuation τ sig (Elt F)) :
    after (opsBack (F := F)) V (no_index (Proc.devRef .tc main_arg2)) = V (Proc.devRef .tc main_arg2) := by
  after_reads_simp

theorem keepBack_main_arg3 (V : Valuation τ sig (Elt F)) :
    after (opsBack (F := F)) V (no_index (Proc.devRef .tc main_arg3)) = V (Proc.devRef .tc main_arg3) := by
  after_reads_simp

set_option maxRecDepth 8192 in
set_option maxHeartbeats 4000000 in
theorem atFinal (V : Valuation τ sig (Elt F)) :
    after (opsFinal (F := F)) V (no_index (Proc.devRef .tc main_v42)) = softmax (F := F) (V (Proc.devRef .tc main_v31)) := by
  simp only [opsFinal, TRef.binary, TRef.nullary, TRef.quaternary, TRef.reshape, TRef.ternary, TRef.unary, TRef.toBuf, TRef.ofBuf, cast_eq]; after_results_simp <;> rfl

theorem keepFinal_main_arg0 (V : Valuation τ sig (Elt F)) :
    after (opsFinal (F := F)) V (no_index (Proc.devRef .tc main_arg0)) = V (Proc.devRef .tc main_arg0) := by
  after_reads_simp

theorem keepFinal_main_arg1 (V : Valuation τ sig (Elt F)) :
    after (opsFinal (F := F)) V (no_index (Proc.devRef .tc main_arg1)) = V (Proc.devRef .tc main_arg1) := by
  after_reads_simp

theorem keepFinal_main_arg2 (V : Valuation τ sig (Elt F)) :
    after (opsFinal (F := F)) V (no_index (Proc.devRef .tc main_arg2)) = V (Proc.devRef .tc main_arg2) := by
  after_reads_simp

theorem keepFinal_main_arg3 (V : Valuation τ sig (Elt F)) :
    after (opsFinal (F := F)) V (no_index (Proc.devRef .tc main_arg3)) = V (Proc.devRef .tc main_arg3) := by
  after_reads_simp

set_option maxRecDepth 8192 in
set_option maxHeartbeats 4000000 in
theorem atScore (V : Valuation τ sig (Elt F)) :
    after (opsScore (F := F)) V (no_index (Proc.devRef .tc main_v43)) = (Host.divf (V (Proc.devRef .tc main_v42) : FVec F S128x100000 .f32) (V (Proc.devRef .tc main_arg3)) : FVec F S128x100000 .f32) := by
  simp only [opsScore, TRef.binary, TRef.nullary, TRef.quaternary, TRef.reshape, TRef.ternary, TRef.unary, TRef.toBuf, TRef.ofBuf, cast_eq]; after_results_simp <;> rfl

theorem keepScore_main_arg0 (V : Valuation τ sig (Elt F)) :
    after (opsScore (F := F)) V (no_index (Proc.devRef .tc main_arg0)) = V (Proc.devRef .tc main_arg0) := by
  after_reads_simp

theorem keepScore_main_arg1 (V : Valuation τ sig (Elt F)) :
    after (opsScore (F := F)) V (no_index (Proc.devRef .tc main_arg1)) = V (Proc.devRef .tc main_arg1) := by
  after_reads_simp

theorem keepScore_main_arg2 (V : Valuation τ sig (Elt F)) :
    after (opsScore (F := F)) V (no_index (Proc.devRef .tc main_arg2)) = V (Proc.devRef .tc main_arg2) := by
  after_reads_simp

theorem keepScore_main_arg3 (V : Valuation τ sig (Elt F)) :
    after (opsScore (F := F)) V (no_index (Proc.devRef .tc main_arg3)) = V (Proc.devRef .tc main_arg3) := by
  after_reads_simp

/-- The closing operations, for any functions in place of the two that reduce. -/
theorem atPickWith (f : FVec F S128x100000 .f32 → IVec S128x100000 32 → FVec F S_ .f32 → IVec S_ 32 → FVec F S128 .f32)
    (g : FVec F S128x100000 .f32 → IVec S128x100000 32 → FVec F S_ .f32 → IVec S_ 32 → IVec S128 32) (V : Valuation τ sig (Elt F)) :
    after (opsPickWith (F := F) f g) V (no_index (Proc.devRef .tc main_v45))
      = shapeCast S128x1 (g (V (Proc.devRef .tc main_v43)) (iotaInDim S128x100000 32 1) (constant S_ .f32 0xFF800000#32) (constantI S_ 32 0#32))
          shapeCasts_S128_S128x1 := by
  simp only [opsPickWith, TRef.binary, TRef.nullary, TRef.quaternary, TRef.reshape, TRef.ternary, TRef.unary, TRef.toBuf, TRef.ofBuf, cast_eq]; after_results_simp <;> rfl

theorem atPick (V : Valuation τ sig (Elt F)) :
    after (opsPick (F := F)) V (no_index (Proc.devRef .tc main_v45)) = firstMax (F := F) (V (Proc.devRef .tc main_v43)) :=
  atPickWith _ _ V

theorem keepPick_main_arg0 (V : Valuation τ sig (Elt F)) :
    after (opsPick (F := F)) V (no_index (Proc.devRef .tc main_arg0)) = V (Proc.devRef .tc main_arg0) := by
  after_reads_simp

theorem keepPick_main_arg1 (V : Valuation τ sig (Elt F)) :
    after (opsPick (F := F)) V (no_index (Proc.devRef .tc main_arg1)) = V (Proc.devRef .tc main_arg1) := by
  after_reads_simp

theorem keepPick_main_arg2 (V : Valuation τ sig (Elt F)) :
    after (opsPick (F := F)) V (no_index (Proc.devRef .tc main_arg2)) = V (Proc.devRef .tc main_arg2) := by
  after_reads_simp

theorem keepPick_main_arg3 (V : Valuation τ sig (Elt F)) :
    after (opsPick (F := F)) V (no_index (Proc.devRef .tc main_arg3)) = V (Proc.devRef .tc main_arg3) := by
  after_reads_simp

/-- @main's 135 operations, in order (a called function's operations stand in its call's place). -/
def ops : List (HloOp τ sig (Elt F)) :=
  opsOrder ++ (opsSorted ++ (opsThresh ++ (opsCut ++ (opsProb ++ (opsCum ++ (opsDrop ++ (opsKeep ++ (opsInverse ++ (opsBack ++ (opsFinal ++ (opsScore ++ (opsPick))))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  (List.forall_append.2 ⟨subOrder, (List.forall_append.2 ⟨subSorted, (List.forall_append.2 ⟨subThresh, (List.forall_append.2 ⟨subCut, (List.forall_append.2 ⟨subProb, (List.forall_append.2 ⟨subCum, (List.forall_append.2 ⟨subDrop, (List.forall_append.2 ⟨subKeep, (List.forall_append.2 ⟨subInverse, (List.forall_append.2 ⟨subBack, (List.forall_append.2 ⟨subFinal, (List.forall_append.2 ⟨subScore, subPick⟩)⟩)⟩)⟩)⟩)⟩)⟩)⟩)⟩)⟩)⟩)⟩)

/-- The whole line leaves the answer in the result's buffer, -/
theorem at_result (V : Valuation τ sig (Elt F)) :
    after (ops (F := F)) V (Proc.devRef .tc main_v45)
      = answer (F := F) (V (Proc.devRef .tc main_arg0)) (V (Proc.devRef .tc main_arg1)) (V (Proc.devRef .tc main_arg2)) (V (Proc.devRef .tc main_arg3)) := by
  simp only [ops, after_append, atOrder, atSorted, atThresh, atCut, atProb, atCum, atDrop, atKeep, atInverse, atBack, atFinal, atScore, atPick, keepOrder_main_arg0, keepOrder_main_arg1, keepOrder_main_arg2, keepOrder_main_arg3, keepSorted_main_arg0, keepSorted_main_arg1, keepSorted_main_arg2, keepSorted_main_arg3, keepSorted_main_v0, keepThresh_main_arg0, keepThresh_main_arg1, keepThresh_main_arg2, keepThresh_main_arg3, keepThresh_main_v0, keepThresh_main_v1, keepCut_main_arg0, keepCut_main_arg1, keepCut_main_arg2, keepCut_main_arg3, keepCut_main_v0, keepProb_main_arg0, keepProb_main_arg1, keepProb_main_arg2, keepProb_main_arg3, keepProb_main_v0, keepProb_main_v8, keepCum_main_arg0, keepCum_main_arg1, keepCum_main_arg2, keepCum_main_arg3, keepCum_main_v0, keepCum_main_v8, keepDrop_main_arg0, keepDrop_main_arg1, keepDrop_main_arg2, keepDrop_main_arg3, keepDrop_main_v0, keepDrop_main_v8, keepKeep_main_arg0, keepKeep_main_arg1, keepKeep_main_arg2, keepKeep_main_arg3, keepKeep_main_v0, keepInverse_main_arg0, keepInverse_main_arg1, keepInverse_main_arg2, keepInverse_main_arg3, keepInverse_main_v29, keepBack_main_arg0, keepBack_main_arg1, keepBack_main_arg2, keepBack_main_arg3, keepFinal_main_arg0, keepFinal_main_arg1, keepFinal_main_arg2, keepFinal_main_arg3, keepScore_main_arg0, keepScore_main_arg1, keepScore_main_arg2, keepScore_main_arg3, keepPick_main_arg0, keepPick_main_arg1, keepPick_main_arg2, keepPick_main_arg3]
  rfl

/-- and leaves an argument as it was. -/
theorem at_main_arg0 (V : Valuation τ sig (Elt F)) :
    after (ops (F := F)) V (Proc.devRef .tc main_arg0) = V (Proc.devRef .tc main_arg0) := by
  simp only [ops, after_append, keepOrder_main_arg0, keepSorted_main_arg0, keepThresh_main_arg0, keepCut_main_arg0, keepProb_main_arg0, keepCum_main_arg0, keepDrop_main_arg0, keepKeep_main_arg0, keepInverse_main_arg0, keepBack_main_arg0, keepFinal_main_arg0, keepScore_main_arg0, keepPick_main_arg0]

/-- and leaves an argument as it was. -/
theorem at_main_arg1 (V : Valuation τ sig (Elt F)) :
    after (ops (F := F)) V (Proc.devRef .tc main_arg1) = V (Proc.devRef .tc main_arg1) := by
  simp only [ops, after_append, keepOrder_main_arg1, keepSorted_main_arg1, keepThresh_main_arg1, keepCut_main_arg1, keepProb_main_arg1, keepCum_main_arg1, keepDrop_main_arg1, keepKeep_main_arg1, keepInverse_main_arg1, keepBack_main_arg1, keepFinal_main_arg1, keepScore_main_arg1, keepPick_main_arg1]

/-- and leaves an argument as it was. -/
theorem at_main_arg2 (V : Valuation τ sig (Elt F)) :
    after (ops (F := F)) V (Proc.devRef .tc main_arg2) = V (Proc.devRef .tc main_arg2) := by
  simp only [ops, after_append, keepOrder_main_arg2, keepSorted_main_arg2, keepThresh_main_arg2, keepCut_main_arg2, keepProb_main_arg2, keepCum_main_arg2, keepDrop_main_arg2, keepKeep_main_arg2, keepInverse_main_arg2, keepBack_main_arg2, keepFinal_main_arg2, keepScore_main_arg2, keepPick_main_arg2]

/-- and leaves an argument as it was. -/
theorem at_main_arg3 (V : Valuation τ sig (Elt F)) :
    after (ops (F := F)) V (Proc.devRef .tc main_arg3) = V (Proc.devRef .tc main_arg3) := by
  simp only [ops, after_append, keepOrder_main_arg3, keepSorted_main_arg3, keepThresh_main_arg3, keepCut_main_arg3, keepProb_main_arg3, keepCum_main_arg3, keepDrop_main_arg3, keepKeep_main_arg3, keepInverse_main_arg3, keepBack_main_arg3, keepFinal_main_arg3, keepScore_main_arg3, keepPick_main_arg3]

/-- On every device, for any float values, from any memory with zero counters: every weakly fair execution of
    @main terminates with the result at the answer of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
          = answer (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v45).trans (at_result _), (h c main_arg0).trans (at_main_arg0 _),
      (h c main_arg1).trans (at_main_arg1 _), (h c main_arg2).trans (at_main_arg2 _), (h c main_arg3).trans (at_main_arg3 _)⟩)
    (run_seq scopedRefs_eq scopedSems_eq defs main (fun _ => ops) main_eq (fun _ => ops_sub) m ρ)

/-- The frame of the reference: every execution ends, the arguments are as launched and every counter is zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (run m ρ)

end Cert.ReferenceIdeal.Run

end
-- ==== Proof.SortOrder.lean ====
module

public import Idealize.ShloMosaic.Lib.SortFacts
public import proofs.«01_k».proof.Proof.Sampler

@[expose] public section

/-!
# What a stable ascending sort does to a row

The sort is by insertion, and an entry goes after those strictly smaller only, so entries that are equal
keep their places' order: the sorted order is by entry and then by place. A second sort, of the places the
first one lists, therefore finds the inverse of the first.
-/

noncomputable section

namespace Cert.Rows

open Idealize.ShloMosaic Finset

/-- Inserting a place smaller than every place of a list ordered by key and then place keeps that order. -/
theorem pairwise_insert {n : ℕ} {κ : Type} [LinearOrder κ] (key : Fin n → κ) (R : Fin n → Fin n → Bool)
    (hR : ∀ a b, R a b = true ↔ key a < key b) (a : Fin n) (l : List (Fin n)) (ha : ∀ b ∈ l, a < b)
    (hl : l.Pairwise fun b c => key b < key c ∨ (key b = key c ∧ b < c)) :
    (insertBefore R a l).Pairwise fun b c => key b < key c ∨ (key b = key c ∧ b < c) := by
  induction l with
  | nil => exact List.pairwise_singleton _ _
  | cons b l ih =>
    rw [List.pairwise_cons] at hl
    unfold insertBefore
    by_cases h : R b a = true
    · rw [if_pos h, List.pairwise_cons]
      refine ⟨fun c hc => ?_, ih (fun c hc => ha c (List.mem_cons_of_mem _ hc)) hl.2⟩
      rcases List.mem_cons.1 ((perm_insertBefore R a l).mem_iff.1 hc) with rfl | hc
      · exact Or.inl ((hR _ _).1 h)
      · exact hl.1 c hc
    · rw [if_neg h, List.pairwise_cons]
      have hab : key a ≤ key b := not_lt.1 fun hba => h ((hR _ _).2 hba)
      refine ⟨fun c hc => ?_, List.pairwise_cons.2 hl⟩
      have hac : key a ≤ key c := by
        rcases List.mem_cons.1 hc with rfl | hc
        · exact hab
        · rcases hl.1 c hc with hlt | heq
          · exact hab.trans hlt.le
          · exact hab.trans heq.1.le
      rcases hac.lt_or_eq with hlt | heq
      · exact Or.inl hlt
      · exact Or.inr ⟨heq, ha c hc⟩

/-- The sorted list of a list of ascending places is ordered by key and then place. -/
theorem pairwise_sorted {n : ℕ} {κ : Type} [LinearOrder κ] (key : Fin n → κ) (R : Fin n → Fin n → Bool)
    (hR : ∀ a b, R a b = true ↔ key a < key b) (l : List (Fin n)) (hl : l.Pairwise (· < ·)) :
    (stableSort R l).Pairwise fun b c => key b < key c ∨ (key b = key c ∧ b < c) := by
  induction l with
  | nil => exact List.Pairwise.nil
  | cons a l ih =>
    rw [List.pairwise_cons] at hl
    unfold stableSort
    exact pairwise_insert key R hR a _ (fun b hb => hl.1 b ((perm_stableSort R l).mem_iff.1 hb)) (ih hl.2)

/-- Of two sorted positions, the earlier holds the smaller key, or an equal key from a smaller place. -/
theorem sorted_lt {n : ℕ} {κ : Type} [LinearOrder κ] (key : Fin n → κ) (R : Fin n → Fin n → Bool)
    (hR : ∀ a b, R a b = true ↔ key a < key b) {i j : Fin n} (hij : i < j) :
    key (sortedFrom R i) < key (sortedFrom R j)
      ∨ (key (sortedFrom R i) = key (sortedFrom R j) ∧ sortedFrom R i < sortedFrom R j) :=
  List.pairwise_iff_get.1 (pairwise_sorted key R hR (List.finRange n) (List.pairwise_lt_finRange n)) _ _ hij

/-- The places a sort lists, as a permutation. -/
def sortPerm {n : ℕ} (R : Fin n → Fin n → Bool) : Equiv.Perm (Fin n) :=
  Equiv.ofBijective (sortedFrom R) ⟨sortedFrom_injective R, sortedFrom_surjective R⟩

/-- The permutation of a sort at a position is the place the sort lists there. -/
theorem sortPerm_apply {n : ℕ} (R : Fin n → Fin n → Bool) (i : Fin n) : sortPerm R i = sortedFrom R i := rfl

/-- The permutation sorting a row, named by the row alone. -/
def rowPerm {n : ℕ} (x : Fin n → EReal) : Equiv.Perm (Fin n) := sortPerm fun a b => decide (x a < x b)

/-- Any comparison that holds exactly where an entry is smaller sorts a row alike. -/
theorem sortedFrom_eq_rowPerm {n : ℕ} (x : Fin n → EReal) (R : Fin n → Fin n → Bool) (hR : ∀ a b, R a b = true ↔ x a < x b)
    (i : Fin n) : sortedFrom R i = rowPerm x i := by
  have h : R = fun a b => decide (x a < x b) := by
    funext a b
    rw [Bool.eq_iff_iff, hR, decide_eq_true_iff]
  rw [h]
  rfl

variable {n : ℕ} [NeZero n] (x : Fin n → EReal)

/-- Sorted positions are in order exactly as the entries they hold. -/
theorem rowPerm_le {i j : Fin n} : LexLe x (rowPerm x i) (rowPerm x j) ↔ i ≤ j := by
  have key : ∀ {i j : Fin n}, i < j → LexLe x (rowPerm x i) (rowPerm x j) := fun {i j} h => by
    rcases sorted_lt x (fun a b => decide (x a < x b)) (fun _ _ => decide_eq_true_iff) h with h | h
    · exact Or.inl h
    · exact Or.inr ⟨h.1, h.2.le⟩
  constructor
  · intro h
    by_contra hc
    have h' := key (not_le.1 hc)
    exact hc ((rowPerm x).injective (h.antisymm h')).le
  · intro h
    rcases h.lt_or_eq with h | rfl
    · exact key h
    · exact LexLe.refl _ _

/-- The sorted row ascends. -/
theorem rowPerm_mono : Monotone (x ∘ rowPerm x) := fun i j h => by
  rcases (rowPerm_le x).2 h with h | h
  · exact h.le
  · exact h.1.le

/-- The sorted order's last position holds the last entry. -/
theorem isLast_rowPerm {j : Fin n} : IsLast x (rowPerm x j) ↔ j.val + 1 = n := by
  constructor
  · intro h
    have hj := (rowPerm_le x).1 (h (rowPerm x ⟨n - 1, by have := j.isLt; omega⟩))
    have hv : n - 1 ≤ j.val := hj
    have := j.isLt
    omega
  · intro h i
    obtain ⟨i, rfl⟩ := (rowPerm x).surjective i
    exact (rowPerm_le x).2 (Fin.le_def.2 (by have := i.isLt; omega))

/-- Sorting the places a first sort lists finds where each place went. -/
theorem sorted_places (σ : Equiv.Perm (Fin n)) (R : Fin n → Fin n → Bool) (hR : ∀ a b, R a b = true ↔ σ a < σ b)
    (i : Fin n) : σ (sortedFrom R i) = i := by
  have hm : StrictMono fun i => σ (sortedFrom R i) := fun i j h => by
    rcases sorted_lt (fun a => σ a) R hR h with h | h
    · exact h
    · exact absurd (σ.injective h.1) (ne_of_lt h.2)
  have hs : Function.Surjective fun i => σ (sortedFrom R i) := σ.surjective.comp (sortedFrom_surjective R)
  have he : StrictMono.orderIsoOfSurjective _ hm hs = OrderIso.refl _ := Subsingleton.elim _ _
  exact congrArg (fun e : Fin n ≃o Fin n => e i) he

end Cert.Rows

end
-- ==== Proof.ArrayReads.lean ====
/- Array operations along the rows of a two-axis array, at any sizes, read at one entry: the gather at a list of places
   per row, the greatest entry, the running sum, the column set to one value, the sort, and the place of the first
   greatest entry. Nothing here mentions a program. -/
module

public import proofs.«01_k».proof.Proof.Reductions
public import proofs.«01_k».proof.Proof.SortOrder
public import Idealize.ShloMosaic.Lib.Routing.OpsOne

@[expose] public section

noncomputable section

namespace Cert.Rows

open Finset Idealize.ShloMosaic
open Idealize.ShloMosaic.ValueIdx hiding ix1 ix2 ix3

variable {m n c : ℕ}

/-- A value made canonical before it is compared — either zero read as one, and what is not a number as one such — is
    the value itself. -/
theorem canonical_read (v w : EReal) :
    Scalar.select (Ideal.cmp .une v v) w (Scalar.select (Ideal.cmp .oeq v (Ideal.ofBits .f32 0#32)) (Ideal.ofBits .f32 0#32) v) = v := by
  have z : Scalar.select (Ideal.cmp .oeq v (Ideal.ofBits .f32 0#32)) (Ideal.ofBits .f32 0#32) v = v := by
    rw [select_of (eq_one v (Ideal.ofBits .f32 0#32))]
    split
    · next h => exact h.symm
    · rfl
  rw [z, show Ideal.cmp .une v v = 0#1 by simp [Ideal.cmp]]
  rfl

/-- A word whose predecessor is a slot, counted back from the length of a row, is a place. -/
theorem sub_word {w : BitVec 32} {t : Fin 68} (h : IntOp.subi w 1#32 = word t) :
    IntOp.subi 100000#32 w = word (⟨99999 - t.val, by omega⟩ : Fin 100000) := by
  have ht := t.isLt
  have hw : w = word t + 1#32 := by
    rw [← h]
    show w = w - 1#32 + 1#32
    rw [BitVec.sub_add_cancel]
  subst hw
  show 100000#32 - (BitVec.ofNat 32 t.val + 1#32) = BitVec.ofNat 32 (99999 - t.val)
  apply BitVec.eq_of_toNat_eq
  simp only [BitVec.toNat_sub, BitVec.toNat_add, BitVec.toNat_ofNat]
  omega

/-- The gather of a row's entries at a list of places per row, read at an entry: the row's entry at the place listed,
    where that place is one of the row's. -/
theorem gather_row_read {α : Type} (wf : GatherDims.WF ⟨2, ![m, n]⟩ ⟨3, ![m, c, 1]⟩ ⟨2, ![m, c]⟩ [] [1] [0] [1] [0] 2 ![1, 1])
    (x : (⟨2, ![m, n]⟩ : Shape).Idx → α) (places : IVec ⟨3, ![m, c, 1]⟩ 32) (g : Fin m) (j : Fin c) (i : Fin n)
    (hi : (places (ix3 g j 0)).toInt = i.val) :
    Host.gather { offsetDims := [], collapsedSliceDims := [1], operandBatchingDims := [0], startIndicesBatchingDims := [0],
                  startIndexMap := [1], indexVectorDim := 2, sliceSizes := ![1, 1], wf := wf } x places (ix2 g j) = x (ix2 g i) := by
  have hlt := i.isLt
  unfold Host.gather
  refine congrArg x (funext fun a => Fin.ext ?_)
  generalize hd : (GatherDims.mk [] [1] [0] [0] [1] 2 ![1, 1] wf : GatherDims ⟨2, ![m, n]⟩ ⟨3, ![m, c, 1]⟩ ⟨2, ![m, c]⟩) = d
  show d.start (ix2 g j) places a + d.batchCoord (ix2 g j) a + d.offCoord (ix2 g j) a = _
  match a with
  | ⟨0, _⟩ =>
    rw [GatherDims.start_batching _ _ _ _ (by rw [← hd]; exact List.mem_singleton.2 rfl),
      GatherDims.offCoord_eq_zero _ _ _ (fun h => ((GatherDims.mem_sKept _ _).1 h).2 (by rw [← hd]; exact List.mem_singleton.2 rfl))]
    unfold GatherDims.batchCoord
    rw [dif_pos (by rw [← hd]; exact List.mem_singleton.2 rfl), Nat.zero_add, Nat.add_zero]
    subst hd
    rfl
  | ⟨1, _⟩ =>
    rw [GatherDims.batchCoord_eq_zero _ _ _ (fun h => by rw [← hd] at h; exact absurd (List.mem_singleton.1 h) (by decide : (1 : Fin 2) ≠ 0)),
      GatherDims.offCoord_eq_zero _ _ _ (fun h => ((GatherDims.mem_sKept _ _).1 h).1 (by rw [← hd]; exact List.mem_singleton.2 rfl))]
    subst hd
    unfold GatherDims.start
    refine (congrArg (· + 0 + 0) (dif_pos (List.mem_singleton.2 rfl))).trans ?_
    have hs : ∀ q, (GatherDims.mk [] [1] [0] [0] [1] 2 ![1, 1] wf : GatherDims ⟨2, ![m, n]⟩ ⟨3, ![m, c, 1]⟩ ⟨2, ![m, c]⟩).siIdx (ix2 g j) q = ix3 g j 0 := fun q => by
      funext b
      refine Fin.ext ?_
      match b with
      | ⟨0, _⟩ => rfl
      | ⟨1, _⟩ => rfl
      | ⟨2, _⟩ => exact congrArg Fin.val (Subsingleton.elim (α := Fin 1) _ 0)
    refine (congrArg (fun q => min (Int.toNat (places q).toInt) (n - 1) + 0 + 0) (hs _)).trans ?_
    dsimp only
    rw [hi]
    show min (Int.toNat (i.val : ℤ)) (n - 1) + 0 + 0 = i.val
    omega

/-- The greatest entry of each row, read at a row. -/
theorem reduce_max_read (x : FVec Ideal ⟨2, ![m, n]⟩ .f32) (h : (⟨2, ![m, n]⟩ : Shape).ReducesTo [1] ⟨1, ![m]⟩)
    (hu : 0 < (⟨0, ![]⟩ : Shape).numel) (g : Fin m) :
    Host.reduce FloatOps.maximumf x (constant ⟨0, ![]⟩ .f32 0xFF800000#32) h hu (ix1 g) = top fun j => x (ix2 g j) := by
  pointwise
  exact fold_max _

/-- The running sum of each row, read at an entry: the sum of the row's entries up to and including it. -/
theorem cumsum_read {k : ℕ} (hn : k + 1 = n) (x : FVec Ideal ⟨2, ![m, n]⟩ .f32) (init : FVec Ideal ⟨0, ![]⟩ .f32)
    (hinit : ∀ i, init i = 0)
    (h : (⟨2, ![m, n]⟩ : Shape).ReduceWindows ![1, n] ![1, 1] ![0, k] ![0, 0] ⟨2, ![m, n]⟩)
    (hu : 0 < (⟨0, ![]⟩ : Shape).numel) (g : Fin m) (j : Fin n) :
    Host.reduceWindowAdd ![1, n] ![1, 1] ![0, k] ![0, 0] x init h hu (ix2 g j) = ∑ i, if i ≤ j then x (ix2 g i) else 0 := by
  have hj := j.isLt
  have hg := g.isLt
  let y : ℕ → EReal := fun i => if h : i < n then x (ix2 g ⟨i, h⟩) else 0
  have hfold : ∀ (M : ℕ) (f : Fin M → EReal) (v : EReal), (List.finRange M).foldl (fun r n => r + f n) v = v + ∑ n, f n := fun M f v => by
    rw [Fin.sum_univ_def]
    generalize List.finRange M = l
    induction l generalizing v with
    | nil => simp
    | cons a l ih => rw [List.foldl_cons, ih, List.map_cons, List.sum_cons, add_assoc]
  show Host.reduceWindow (· + ·) ![1, n] ![1, 1] ![0, k] ![0, 0] x (fun _ : (⟨0, ![]⟩ : Shape).Idx => init (Shape.Idx.first hu)) h (by decide) (ix2 g j) = _
  rw [hinit]
  unfold Host.reduceWindow
  let G : (⟨2, ![1, n]⟩ : Shape).Idx → EReal := fun w => if k ≤ j.val + (w 1).val then y (j.val + (w 1).val - k) else 0
  refine (hfold _ (fun q => _) 0).trans ?_
  rw [zero_add]
  refine (Finset.sum_congr rfl fun q _ => ?_).trans ((Equiv.sum_comp (⟨2, ![1, n]⟩ : Shape).rowMajor.symm G).trans ?_)
  · change Fin (⟨2, ![1, n]⟩ : Shape).numel at q
    have hw0 : ((⟨2, ![1, n]⟩ : Shape).rowMajor.symm q 0).val = 0 := congrArg Fin.val (Subsingleton.elim (α := Fin 1) ((⟨2, ![1, n]⟩ : Shape).rowMajor.symm q 0) 0)
    have hw1 : ((⟨2, ![1, n]⟩ : Shape).rowMajor.symm q 1).val < n := ((⟨2, ![1, n]⟩ : Shape).rowMajor.symm q 1).isLt
    show _ = ite _ _ _
    by_cases hk : k ≤ j.val + ((⟨2, ![1, n]⟩ : Shape).rowMajor.symm q 1).val
    · have hlt : j.val + ((⟨2, ![1, n]⟩ : Shape).rowMajor.symm q 1).val - k < n := by omega
      rw [if_pos hk, dif_pos (fun a => by
        match a with
        | ⟨0, _⟩ =>
          show 0 ≤ g.val * 1 + ((⟨2, ![1, n]⟩ : Shape).rowMajor.symm q 0).val ∧ g.val * 1 + ((⟨2, ![1, n]⟩ : Shape).rowMajor.symm q 0).val - 0 < m
          omega
        | ⟨1, _⟩ =>
          show k ≤ j.val * 1 + ((⟨2, ![1, n]⟩ : Shape).rowMajor.symm q 1).val ∧ j.val * 1 + ((⟨2, ![1, n]⟩ : Shape).rowMajor.symm q 1).val - k < n
          omega)]
      show _ = dite _ _ _
      rw [dif_pos hlt]
      refine congrArg x (funext fun a => Fin.ext ?_)
      match a with
      | ⟨0, _⟩ =>
        show g.val * 1 + ((⟨2, ![1, n]⟩ : Shape).rowMajor.symm q 0).val - 0 = g.val
        omega
      | ⟨1, _⟩ =>
        show j.val * 1 + ((⟨2, ![1, n]⟩ : Shape).rowMajor.symm q 1).val - k = j.val + ((⟨2, ![1, n]⟩ : Shape).rowMajor.symm q 1).val - k
        omega
    · rw [if_neg hk, dif_neg (fun hin => hk (by
        have := (hin 1).1
        change k ≤ j.val * 1 + ((⟨2, ![1, n]⟩ : Shape).rowMajor.symm q 1).val at this
        omega))]
  have e : ∀ F : ℕ → EReal, ∑ w : (⟨2, ![1, n]⟩ : Shape).Idx, F (w 1).val = ∑ i ∈ range n, F i := fun F => by
    rw [← Fin.sum_univ_eq_sum_range]
    refine Finset.sum_bij' (fun w _ => (w 1 : Fin n)) (fun i _ => ix2 (0 : Fin 1) i) (fun _ _ => mem_univ _) (fun _ _ => mem_univ _) (fun w _ => ?_)
      (fun _ _ => rfl) (fun _ _ => rfl)
    funext a
    match a with
    | ⟨0, _⟩ => exact Subsingleton.elim (α := Fin 1) _ _
    | ⟨1, _⟩ => rfl
  rw [e fun q => if k ≤ j.val + q then y (j.val + q - k) else 0]
  have er : ∀ i : Fin n, (if i ≤ j then x (ix2 g i) else 0) = if i.val ≤ j.val then y i.val else 0 := fun i => by
    show _ = if i.val ≤ j.val then (if h : i.val < n then x (ix2 g ⟨i.val, h⟩) else 0) else 0
    rw [dif_pos i.isLt]
    rfl
  rw [Finset.sum_congr rfl fun i _ => er i, Fin.sum_univ_eq_sum_range (fun i => if i ≤ j.val then y i else 0) n,
    ← Finset.sum_filter, ← Finset.sum_filter]
  refine Finset.sum_nbij' (fun q => j.val + q - k) (fun i => i + k - j.val) ?_ ?_ ?_ ?_ (fun _ _ => rfl) <;>
    · intro q hq
      simp only [mem_filter, mem_range] at hq ⊢
      omega

/-- A column set to the updates' entries, read at an entry. -/
theorem scatter_column_read {α : Type} (d : ScatterDims ⟨2, ![m, n]⟩ ⟨1, ![1]⟩ ⟨1, ![m]⟩) (hi : d.insertedWindowDims = [1])
    (hs : d.scatterDimsToOperandDims = [1]) (x : (⟨2, ![m, n]⟩ : Shape).Idx → α) (idx : IVec ⟨1, ![1]⟩ 32)
    (u : (⟨1, ![m]⟩ : Shape).Idx → α) (v : α) (hv : ∀ i, u i = v) (k : Fin n) (hk : (idx (ix1 0)).toInt = k.val) (g : Fin m) (j : Fin n) :
    Host.scatter d (fun _ b => b) x idx u (ix2 g j) = if j = k then v else x (ix2 g j) := by
  by_cases h : j = k
  · rw [if_pos h]
    exact Routing.scatter_set_hit d x idx u _ v (fun i _ => hv i) (ix1 g) ((Routing.lands_col d hi hs idx k hk g g j).2 ⟨rfl, h⟩)
  · rw [if_neg h]
    refine Routing.scatter_set_miss d x idx u _ fun i hi' => h ?_
    have e : i = ix1 (i 0) := by
      funext a
      match a with
      | ⟨0, _⟩ => rfl
    rw [e] at hi'
    exact ((Routing.lands_col d hi hs idx k hk (i 0) g j).1 hi').2

/-- Sorting each row along with another array, read at an entry of the other. -/
theorem sort_second_read {α β : Type} (cmp : α × β → α × β → BitVec 1) (x : (⟨2, ![m, n]⟩ : Shape).Idx → α)
    (y : (⟨2, ![m, n]⟩ : Shape).Idx → β) (g : Fin m) (j : Fin n) :
    (Host.sort2 ⟨2, ![m, n]⟩ 1 cmp x y).2 (ix2 g j)
      = y (ix2 g (sortedFrom (fun a b : Fin n => cmp (x (ix2 g a), y (ix2 g a)) (x (ix2 g b), y (ix2 g b)) == 1#1) j)) := by
  have e : ∀ k : Fin n, (ix2 g j : (⟨2, ![m, n]⟩ : Shape).Idx).along 1 k = ix2 g k := fun k => by
    funext a
    match a with
    | ⟨0, _⟩ => rfl
    | ⟨1, _⟩ => rfl
  unfold Host.sort2
  dsimp only
  rw [dif_pos (show 1 < 2 by decide)]
  refine (congrArg y (e _)).trans ?_
  refine congrArg (fun q => y (ix2 g q)) (congrArg (fun R : Fin n → Fin n → Bool => sortedFrom R j) (funext fun a => funext fun b => ?_))
  exact congrArg (· == 1#1) (congrArg₂ cmp (congrArg₂ Prod.mk (congrArg x (e a)) (congrArg y (e a)))
    (congrArg₂ Prod.mk (congrArg x (e b)) (congrArg y (e b))))

/-- Sorting each row, read at an entry. -/
theorem sort_read {α : Type} (cmp : α → α → BitVec 1) (x : (⟨2, ![m, n]⟩ : Shape).Idx → α) (g : Fin m) (j : Fin n) :
    Host.sort ⟨2, ![m, n]⟩ 1 cmp x (ix2 g j)
      = x (ix2 g (sortedFrom (fun a b : Fin n => cmp (x (ix2 g a)) (x (ix2 g b)) == 1#1) j)) := by
  have e : ∀ k : Fin n, (ix2 g j : (⟨2, ![m, n]⟩ : Shape).Idx).along 1 k = ix2 g k := fun k => by
    funext a
    match a with
    | ⟨0, _⟩ => rfl
    | ⟨1, _⟩ => rfl
  unfold Host.sort
  dsimp only
  rw [dif_pos (show 1 < 2 by decide)]
  refine (congrArg x (e _)).trans ?_
  refine congrArg (fun q => x (ix2 g q)) (congrArg (fun R : Fin n → Fin n → Bool => sortedFrom R j) (funext fun a => funext fun b => ?_))
  exact congrArg (· == 1#1) (congrArg₂ cmp (congrArg x (e a)) (congrArg x (e b)))

/-- Folding a list of entries with their places by taking the better of two: the result is one of them, and no other has
    a greater entry, or an equal one at a smaller place. -/
theorem fold_better (f : EReal × BitVec 32 → EReal × BitVec 32 → EReal × BitVec 32)
    (hf : ∀ a b, f a b = if b.1 < a.1 ∨ (a.1 = b.1 ∧ a.2.toInt < b.2.toInt) then a else b) (l : List (EReal × BitVec 32))
    (a : EReal × BitVec 32) :
    l.foldl f a ∈ a :: l ∧ ∀ b ∈ a :: l, b.1 < (l.foldl f a).1 ∨ (b.1 = (l.foldl f a).1 ∧ (l.foldl f a).2.toInt ≤ b.2.toInt) := by
  induction l generalizing a with
  | nil => exact ⟨List.mem_singleton.2 rfl, fun b hb => by rw [List.mem_singleton.1 hb]; exact Or.inr ⟨rfl, le_refl _⟩⟩
  | cons b l ih =>
    rw [List.foldl_cons]
    obtain ⟨h1, h2⟩ := ih (f a b)
    have hab : (f a b = a ∨ f a b = b)
        ∧ (a.1 < (f a b).1 ∨ (a.1 = (f a b).1 ∧ (f a b).2.toInt ≤ a.2.toInt))
        ∧ (b.1 < (f a b).1 ∨ (b.1 = (f a b).1 ∧ (f a b).2.toInt ≤ b.2.toInt)) := by
      rw [hf]
      by_cases h : b.1 < a.1 ∨ (a.1 = b.1 ∧ a.2.toInt < b.2.toInt)
      · rw [if_pos h]
        refine ⟨Or.inl rfl, Or.inr ⟨rfl, le_refl _⟩, ?_⟩
        rcases h with h | h
        · exact Or.inl h
        · exact Or.inr ⟨h.1.symm, h.2.le⟩
      · rw [if_neg h]
        refine ⟨Or.inr rfl, ?_, Or.inr ⟨rfl, le_refl _⟩⟩
        rw [not_or, not_lt, not_and, not_lt] at h
        rcases h.1.lt_or_eq with h' | h'
        · exact Or.inl h'
        · exact Or.inr ⟨h', h.2 h'⟩
    have step : ∀ c : EReal × BitVec 32, (c.1 < (f a b).1 ∨ (c.1 = (f a b).1 ∧ (f a b).2.toInt ≤ c.2.toInt)) →
        c.1 < (l.foldl f (f a b)).1 ∨ (c.1 = (l.foldl f (f a b)).1 ∧ (l.foldl f (f a b)).2.toInt ≤ c.2.toInt) := fun c hc => by
      rcases h2 _ List.mem_cons_self with h | h
      · rcases hc with hc | hc
        · exact Or.inl (hc.trans h)
        · exact Or.inl (hc.1.trans_lt h)
      · rcases hc with hc | hc
        · exact Or.inl (hc.trans_eq h.1)
        · exact Or.inr ⟨hc.1.trans h.1, h.2.trans hc.2⟩
    constructor
    · rcases List.mem_cons.1 h1 with h | h
      · rw [h]
        rcases hab.1 with h' | h' <;> rw [h'] <;> simp
      · exact List.mem_cons_of_mem _ (List.mem_cons_of_mem _ h)
    · intro c hc
      rcases List.mem_cons.1 hc with rfl | hc
      · exact step _ hab.2.1
      · rcases List.mem_cons.1 hc with rfl | hc
        · exact step _ hab.2.2
        · exact h2 c (List.mem_cons_of_mem _ hc)

/-- The place of the greatest entry of each row, the first of equal ones, read at a row. -/
theorem argmax_read [NeZero n] (hn : n ≤ 100000) (f : EReal × BitVec 32 → EReal × BitVec 32 → EReal × BitVec 32)
    (hf : ∀ a b, f a b = if b.1 < a.1 ∨ (a.1 = b.1 ∧ a.2.toInt < b.2.toInt) then a else b)
    (x : FVec Ideal ⟨2, ![m, n]⟩ .f32) (y : IVec ⟨2, ![m, n]⟩ 32) (hy : ∀ g i, y (ix2 g i) = word i)
    (ix : FVec Ideal ⟨0, ![]⟩ .f32) (hx : ∀ i, ix i = ⊥) (iy : IVec ⟨0, ![]⟩ 32) (hz : ∀ i, iy i = 0#32)
    (h : (⟨2, ![m, n]⟩ : Shape).ReducesTo [1] ⟨1, ![m]⟩) (hu : 0 < (⟨0, ![]⟩ : Shape).numel) (g : Fin m) :
    (Host.argReduce (F := Ideal) (φ := .f32) f x y ix iy h hu (ix1 g)).2 = word (pick fun j => x (ix2 g j)) := by
  rw [Ideal.argReduce_eq_reduce2, Host.reduce2_eq_foldl_fiber, hx, hz]
  have hmem : ∀ p : EReal × BitVec 32, p ∈ Host.argReduceFiber (α := EReal) x y h (ix1 g) ↔ ∃ i, p = (x (ix2 g i), word i) := fun p => by
    unfold Host.argReduceFiber
    rw [List.mem_map]
    constructor
    · rintro ⟨q, hq, rfl⟩
      have hq' := of_decide_eq_true (List.mem_filter.1 hq).2
      obtain ⟨i, hi⟩ := (h.fiber_r2_a1 (ix1 g) _).1 hq'
      refine ⟨i, ?_⟩
      rw [← hi]
      exact Prod.ext rfl (hy g i)
    · rintro ⟨i, rfl⟩
      refine ⟨(⟨2, ![m, n]⟩ : Shape).rowMajor (ix2 g i), List.mem_filter.2 ⟨List.mem_finRange _, decide_eq_true ?_⟩, ?_⟩
      · rw [Equiv.symm_apply_apply]
        exact (h.fiber_r2_a1 (ix1 g) _).2 ⟨i, rfl⟩
      · rw [Equiv.symm_apply_apply, hy]
  obtain ⟨h1, h2⟩ := fold_better f hf (Host.argReduceFiber (α := EReal) x y h (ix1 g)) (⊥, 0#32)
  generalize List.foldl f (⊥, 0#32) (Host.argReduceFiber (α := EReal) x y h (ix1 g)) = r at h1 h2
  have h3 : ∀ j, x (ix2 g j) < r.1 ∨ (x (ix2 g j) = r.1 ∧ r.2.toInt ≤ (word j).toInt) := fun j =>
    h2 (x (ix2 g j), word j) (List.mem_cons_of_mem _ ((hmem _).2 ⟨j, rfl⟩))
  have key : ∀ i : Fin n, r.2 = word i → r.1 = x (ix2 g i) → r.2 = word (pick fun j => x (ix2 g j)) := fun i hi2 hi1 => by
    rw [hi2]
    have ht : x (ix2 g i) = top fun j => x (ix2 g j) :=
      eq_top ⟨i, rfl⟩ fun j => by
        rw [← hi1]
        rcases h3 j with h | h
        · exact h.le
        · exact h.1.le
    refine congrArg word (eq_pick ht fun j hj => ?_)
    rcases h3 j with h | h
    · rw [hi1, ht] at h
      exact absurd hj h.ne
    · have := h.2
      rw [hi2, word_toInt hn, word_toInt hn] at this
      exact Fin.le_def.2 (by omega)
  rcases List.mem_cons.1 h1 with h | h
  · refine key ⟨0, Nat.pos_of_neZero n⟩ (by rw [h]; rfl) ?_
    rw [h]
    rcases h3 ⟨0, Nat.pos_of_neZero n⟩ with h' | h'
    · rw [h] at h'
      exact absurd h' not_lt_bot
    · rw [h] at h'
      exact h'.1.symm
  · obtain ⟨i, rfl⟩ := (hmem r).1 h
    exact key i rfl rfl

end Cert.Rows

end
-- ==== Proof.SortedRow.lean ====
/- The sampler over a row taken in ascending order: the softmax of the row after each cut, the running sum along the
   sorted order, the k-th greatest entry by its sorted position, and how many entries a lower position leaves above it.
   Nothing here mentions a program. -/
module

public import proofs.«01_k».proof.Proof.SortOrder

@[expose] public section

noncomputable section

namespace Cert.Rows

open Finset Idealize.ShloMosaic
open scoped Classical

variable {n : ℕ} [NeZero n]

/-- The softmax of a row. -/
def soft (w : Fin n → EReal) (i : Fin n) : EReal := Ideal.div (Ideal.exp (w i - top w)) (∑ j, Ideal.exp (w j - top w))

/-- The maximum of a row does not depend on the order of its entries. -/
theorem top_perm (w : Fin n → EReal) (σ : Equiv.Perm (Fin n)) : (top fun j => w (σ j)) = top w := by
  obtain ⟨i, hi⟩ := exists_top w
  exact (eq_top ⟨σ.symm i, by rw [Equiv.apply_symm_apply, hi]⟩ fun j => le_top w (σ j)).symm

/-- The softmax of a permuted row is the permuted softmax. -/
theorem soft_perm (w : Fin n → EReal) (σ : Equiv.Perm (Fin n)) (j : Fin n) : soft (fun j => w (σ j)) j = soft w (σ j) := by
  unfold soft
  rw [top_perm, Equiv.sum_comp σ fun i => Ideal.exp (w i - top w)]

/-- A row some entries of which, its greatest not among them, are replaced by −∞ has the same maximum, -/
theorem top_masked (x : Fin n → EReal) (S : Fin n → Prop) [DecidablePred S] (h : ∃ i, S i ∧ x i = top x) :
    (top fun i => if S i then x i else ⊥) = top x := by
  obtain ⟨i, hi, ht⟩ := h
  refine (eq_top ⟨i, by rw [if_pos hi, ht]⟩ fun j => ?_).symm
  split
  · exact le_top x j
  · exact bot_le

/-- and its weights are the row's where it is kept, and 0 elsewhere. -/
theorem weight_masked (x : Fin n → EReal) (S : Fin n → Prop) [DecidablePred S] (i : Fin n) :
    Ideal.exp ((if S i then x i else ⊥) - top x) = if S i then Ideal.exp (x i - top x) else 0 := by
  by_cases h : S i
  · rw [if_pos h, if_pos h]
  · rw [if_neg h, if_neg h, EReal.bot_sub, Ideal.exp_bot]

variable {x : Fin n → EReal} {θ b : EReal} {q : Fin n → EReal}

/-- The softmax after the first cut. -/
theorem soft_first (h : Good x θ q) (i : Fin n) : soft (fun i => if x i < θ then ⊥ else x i) i = prob x θ i := by
  have e : (fun i => if x i < θ then ⊥ else x i) = fun i => if θ ≤ x i then x i else ⊥ := funext fun i => by
    by_cases hi : θ ≤ x i
    · rw [if_neg (not_lt.2 hi), if_pos hi]
    · rw [if_pos (not_le.1 hi), if_neg hi]
  have ht : ∃ i, θ ≤ x i ∧ x i = top x := by
    obtain ⟨i, hi⟩ := exists_top x
    exact ⟨i, hi ▸ h.le_top, hi⟩
  rw [e]
  unfold soft prob
  rw [top_masked x (fun i => θ ≤ x i) ht]
  have w : ∀ i, Ideal.exp ((if θ ≤ x i then x i else ⊥) - top x) = e1 x θ i := fun i =>
    (weight_masked x (fun i => θ ≤ x i) i).trans (by unfold e1; rfl)
  rw [w, sum_congr rfl fun j _ => w j]

/-- The softmax after both cuts, over the noise. -/
theorem soft_second (h : Good x θ q) (i : Fin n) :
    Ideal.div (soft (fun i => if Kept x θ b i then x i else ⊥) i) (q i) = score x θ b q i := by
  have ht : ∃ i, Kept x θ b i ∧ x i = top x := by
    obtain ⟨i, hi⟩ := exists_last x
    exact ⟨i, h.last_kept hi, hi.eq_top⟩
  unfold soft score
  rw [top_masked x (Kept x θ b) ht]
  have w : ∀ i, Ideal.exp ((if Kept x θ b i then x i else ⊥) - top x) = e2 x θ b i := fun i =>
    (weight_masked x (Kept x θ b) i).trans (by unfold e2; rfl)
  rw [w, sum_congr rfl fun j _ => w j]

/-- The running sum along the sorted order is the probability of everything up to an entry. -/
theorem sum_sorted (j : Fin n) : (∑ i, if i ≤ j then prob x θ (rowPerm x i) else 0) = cum x θ (rowPerm x j) := by
  unfold cum
  rw [← Equiv.sum_comp (rowPerm x) fun l => if LexLe x l (rowPerm x j) then prob x θ l else 0]
  refine sum_congr rfl fun i _ => ?_
  by_cases hi : i ≤ j
  · rw [if_pos hi, if_pos ((rowPerm_le x).2 hi)]
  · rw [if_neg hi, if_neg fun h => hi ((rowPerm_le x).1 h)]

/-- The sorted row after both cuts. -/
theorem cut_sorted (j : Fin n) :
    (if cum x θ (rowPerm x j) ≤ b ∧ ¬ j.val + 1 = n then ⊥ else if x (rowPerm x j) < θ then ⊥ else x (rowPerm x j))
      = if Kept x θ b (rowPerm x j) then x (rowPerm x j) else ⊥ := by
  unfold Kept
  by_cases hθ : θ ≤ x (rowPerm x j)
  · rw [if_neg (not_lt.2 hθ)]
    by_cases hc : cum x θ (rowPerm x j) ≤ b ∧ ¬ j.val + 1 = n
    · rw [if_pos hc, if_neg]
      rintro ⟨-, h | h⟩
      · exact absurd hc.1 (not_le.2 h)
      · exact hc.2 ((isLast_rowPerm x).1 h)
    · rw [if_neg hc, if_pos]
      refine ⟨hθ, ?_⟩
      by_cases hl : j.val + 1 = n
      · exact Or.inr ((isLast_rowPerm x).2 hl)
      · exact Or.inl (not_le.1 fun h => hc ⟨h, hl⟩)
  · rw [if_pos (not_le.1 hθ), ite_self, if_neg fun h => hθ h.1]

/-- The entry `t` places before the end of the sorted row is the one left greatest when `t` have been struck out. -/
theorem sorted_val {t : ℕ} (j : Fin n) (hj : j.val + (t + 1) = n) : x (rowPerm x j) = val x t :=
  (isKth_sorted x (rowPerm_mono x) (by omega) j hj).unique x (isKth_val x (by omega))

/-- Where a lower position of the sorted row is strictly below a value, only the later positions reach the value. -/
theorem card_above {v : EReal} {l : ℕ} (j : Fin n) (hj : j.val + (l + 1) = n) (hv : x (rowPerm x j) < v) :
    (univ.filter fun i => v ≤ x i).card ≤ l := by
  have hsub : (univ.filter fun i => v ≤ x i) ⊆ (Ioi j).map (rowPerm x).toEmbedding := fun i hi => by
    obtain ⟨a, rfl⟩ := (rowPerm x).surjective i
    refine mem_map.2 ⟨a, mem_Ioi.2 (not_le.1 fun h => ?_), rfl⟩
    exact absurd ((mem_filter.1 hi).2.trans (rowPerm_mono x h)) (not_le.2 hv)
  refine (card_le_card hsub).trans ?_
  rw [card_map, Fin.card_Ioi]
  omega

end Cert.Rows

end
-- ==== Proof.RefReads.lean ====
/- The steps of the reference's answer, each read at one entry. -/
module

public import proofs.«01_k».proof.Proof.RefTerms
public import proofs.«01_k».proof.Proof.ArrayReads
public import proofs.«01_k».proof.Proof.SortedRow
public import proofs.«01_k».proof.Proof.Target

@[expose] public section

noncomputable section

namespace Cert.ReferenceIdeal.Run

open Finset Cert.ReferenceIdeal Cert.ReferenceIdeal.Gen Cert.Rows Idealize.ShloMosaic
open Idealize.ShloMosaic.ValueIdx hiding ix1 ix2 ix3
open scoped Classical

variable (x : FVec Ideal S128x100000 .f32) (g : Fin 128) (j : Fin 100000)

/-- The comparison the logits are sorted by holds exactly where the first is smaller. -/
theorem comparator_one (l r : EReal × BitVec 32) : comparator_f32_i32_d1 (F := Ideal) l r = 1#1 ↔ l.1 < r.1 := by
  show Ideal.cmp .olt (Scalar.select (Ideal.cmp .une l.1 l.1) _ (Scalar.select (Ideal.cmp .oeq l.1 (Ideal.ofBits .f32 0#32)) (Ideal.ofBits .f32 0#32) l.1))
    (Scalar.select (Ideal.cmp .une r.1 r.1) _ (Scalar.select (Ideal.cmp .oeq r.1 (Ideal.ofBits .f32 0#32)) (Ideal.ofBits .f32 0#32) r.1)) = 1#1 ↔ _
  rw [canonical_read, canonical_read]
  exact lt_one _ _

/-- The iota along a row lists its places. -/
theorem iota_read (i : Fin 100000) : iotaInDim S128x100000 32 1 (ix2 g i) = word i := rfl

/-- The sorting order of a row. -/
theorem order_read : order x (ix2 g j) = word (rowPerm (line x g) j) := by
  unfold order
  refine (sort_second_read _ x (iotaInDim S128x100000 32 1) g j).trans ((iota_read g _).trans (congrArg word ?_))
  exact sortedFrom_eq_rowPerm (line x g) _ (fun a b => by rw [beq_iff_eq]; exact comparator_one _ _) j

/-- The places a row of words lists, none of them negative. -/
theorem places_read (a : IVec S128x100000 32) (i : Fin 100000) (h : a (ix2 g j) = word i) : places a (ix3 g j 0) = word i := by
  have e : places a (ix3 g j 0)
      = Scalar.select (IntOp.cmpi .slt (a (ix2 g j)) 0#32) (IntOp.addi (a (ix2 g j)) 100000#32) (a (ix2 g j)) := by
    unfold places
    pointwise
  rw [e, h, select_of (slti_one _ _), if_neg]
  rw [word_toInt le_rfl]
  simp

/-- A place of a row is within its bounds. -/
theorem in_bounds (i : Fin 100000) :
    (univ : Finset (Fin 1)).fold IntOp.andi 1#1 (fun _ => IntOp.andi (IntOp.cmpi .sge (word i) 0#32) (IntOp.cmpi .sle (word i) 99999#32)) = 1#1 := by
  have h0 : IntOp.cmpi .sge (word i) 0#32 = 1#1 := (word_sge le_rfl i (0 : Fin 100000)).2 (Fin.zero_le i)
  have h1 : IntOp.cmpi .sle (word i) 99999#32 = 1#1 := (word_sle le_rfl i (99999 : Fin 100000)).2 (Fin.le_last i)
  rw [h0, h1]
  decide

/-- The entries of a row at the places listed. -/
theorem along_read (a : IVec S128x100000 32) (i : Fin 100000) (h : a (ix2 g j) = word i) : along x a (ix2 g j) = x (ix2 g i) := by
  have e : along x a (ix2 g j)
      = Scalar.select ((univ : Finset (Fin 1)).fold IntOp.andi 1#1 fun q =>
          IntOp.andi (IntOp.cmpi .sge (places a (ix3 g j q)) 0#32) (IntOp.cmpi .sle (places a (ix3 g j q)) 99999#32))
        (Host.gather gather_S128x100000_S128x100000x1_S128x100000_n_1_0_0_1_2_11 x (places a) (ix2 g j)) (Ideal.ofBits .f32 2143289344#32) := by
    unfold along
    pointwise
  have hp : ∀ q : Fin 1, places a (ix3 g j q) = word i := fun q => by
    rw [Subsingleton.elim q 0]
    exact places_read g j a i h
  rw [e]
  simp only [hp]
  rw [in_bounds i, select_one]
  exact gather_row_read _ x (places a) g j i (by rw [hp, word_toInt le_rfl])

/-- The place of the k-th greatest entry in the sorted row. -/
theorem kth_read (k : IVec S128 32) : kth k (ix2 g 0) = IntOp.subi 100000#32 (k (ix1 g)) := by
  unfold kth
  pointwise

/-- The entry of a row at one place. -/
theorem alongOne_read (a : IVec S128x1 32) (i : Fin 100000) (h : a (ix2 g 0) = word i) : alongOne x a (ix2 g 0) = x (ix2 g i) := by
  have e : alongOne x a (ix2 g 0)
      = Scalar.select ((univ : Finset (Fin 1)).fold IntOp.andi 1#1 fun q =>
          IntOp.andi (IntOp.cmpi .sge (place a (ix3 g 0 q)) 0#32) (IntOp.cmpi .sle (place a (ix3 g 0 q)) 99999#32))
        (Host.gather gather_S128x100000_S128x1x1_S128x1_n_1_0_0_1_2_11 x (place a) (ix2 g 0)) (Ideal.ofBits .f32 2143289344#32) := by
    unfold alongOne
    pointwise
  have hp : ∀ q : Fin 1, place a (ix3 g 0 q) = word i := fun q => by
    rw [Subsingleton.elim q 0]
    have e : place a (ix3 g 0 0)
        = Scalar.select (IntOp.cmpi .slt (a (ix2 g 0)) 0#32) (IntOp.addi (a (ix2 g 0)) 100000#32) (a (ix2 g 0)) := by
      unfold place
      pointwise
    rw [e, h, select_of (slti_one _ _), if_neg]
    rw [word_toInt le_rfl]
    simp
  rw [e]
  simp only [hp]
  rw [in_bounds i, select_one]
  exact gather_row_read _ x (place a) g 0 i (by rw [hp, word_toInt le_rfl])

/-- The first cut. -/
theorem cut_read (t : FVec Ideal S128x1 .f32) : cut x t (ix2 g j) = if x (ix2 g j) < t (ix2 g 0) then ⊥ else x (ix2 g j) := by
  have e : cut x t (ix2 g j) = if x (ix2 g j) < t (ix2 g 0) then Ideal.ofBits .f32 4286578688#32 else x (ix2 g j) := by
    unfold cut
    pointwise
  rw [e, show Ideal.ofBits .f32 4286578688#32 = (⊥ : EReal) from word_neg_inf]

/-- The weights of a row before they are normalised, for any row maxima. -/
def weightsOf (R : FVec Ideal S128 .f32) : FVec Ideal S128x100000 .f32 :=
  Host.exp (subf x (broadcastInDim S128x100000 ![0, 1] bcast_S128x1_S128x100000_0_1 (broadcastInDim S128x1 ![0] bcast_S128_S128x1_0
    (maximumf (broadcastInDim S128 ![] bcast_S_S128 (constant S_ .f32 0xFF800000#32)) R))))

/-- The same, read at an entry. -/
theorem weightsOf_read (R : FVec Ideal S128 .f32) : weightsOf x R (ix2 g j) = Ideal.exp (x (ix2 g j) - R (ix1 g)) := by
  have e : weightsOf x R (ix2 g j) = Ideal.exp (x (ix2 g j) - max (Ideal.ofBits .f32 4286578688#32) (R (ix1 g))) := by
    unfold weightsOf
    pointwise
  rw [e, show Ideal.ofBits .f32 4286578688#32 = (⊥ : EReal) from word_neg_inf, max_eq_right bot_le]

/-- The weights are those for the rows' greatest entries. -/
theorem weights_eq : weights x = weightsOf x (Host.reduce FloatOps.maximumf x (constant S_ .f32 0xFF800000#32) reducesTo_S128x100000_S128_d1 h_S_) := by
  unfold weights weightsOf
  with_reducible rfl

/-- The weights of a row before they are normalised. -/
theorem weights_read : weights x (ix2 g j) = Ideal.exp (x (ix2 g j) - top (line x g)) := by
  rw [weights_eq]
  exact (weightsOf_read x g j _).trans (congrArg (fun t : EReal => Ideal.exp (x (ix2 g j) - t)) (reduce_max_read x reducesTo_S128x100000_S128_d1 h_S_ g))

/-- The softmax of a row. -/
theorem softmax_read : softmax x (ix2 g j) = soft (line x g) j := by
  have e : softmax x (ix2 g j) = Ideal.div (weights x (ix2 g j)) (∑ i, weights x (ix2 g i)) := by
    unfold softmax
    pointwise
  rw [e, weights_read, sum_congr rfl fun i _ => weights_read x g i]
  rfl

/-- The running sum of a row. -/
theorem cumsum_read' : cumsum x (ix2 g j) = ∑ i, if i ≤ j then x (ix2 g i) else 0 := by
  unfold cumsum
  refine cumsum_read (k := 99999) rfl x _ (fun i => ?_) _ _ g j
  show Ideal.ofBits .f32 0#32 = 0
  simp [Ideal.ofBits, Ideal.ieee]

/-- Where the running sum is low. -/
theorem low_read (p : FVec Ideal S128 .f32) : low x p (ix2 g j) = 1#1 ↔ x (ix2 g j) ≤ 1 - p (ix1 g) := by
  have e : low x p (ix2 g j) = BitVec.ofBool (decide (x (ix2 g j) ≤ 1 - p (ix1 g))) := by
    unfold low
    pointwise
  rw [e]
  exact ofBool_one _

/-- The places to drop never hold the last one. -/
theorem dropped_read (d : IVec S128x100000 1) : dropped d (ix2 g j) = 1#1 ↔ d (ix2 g j) = 1#1 ∧ ¬ j.val + 1 = 100000 := by
  unfold dropped
  rw [scatter_column_read scatter_S128x100000_S1_S128_0_1_1_0 rfl rfl d (broadcastInDim S1 ![] bcast_S_S1 (constantI S_ 32 99999#32))
    (broadcastInDim S128 ![] bcast_S_S128 (constantI S_ 1 0#1)) 0#1 (fun _ => rfl) (99999 : Fin 100000) rfl g j]
  by_cases h : j = 99999
  · rw [if_pos h, h]
    simp
  · rw [if_neg h]
    have : ¬ j.val + 1 = 100000 := fun hj => h (Fin.ext (by show j.val = 99999; omega))
    simp [this]

/-- The second cut. -/
theorem cutTail_read (d : IVec S128x100000 1) : cutTail d x (ix2 g j) = if d (ix2 g j) = 1#1 then ⊥ else x (ix2 g j) := by
  have e : cutTail d x (ix2 g j) = Scalar.select (d (ix2 g j)) (Ideal.ofBits .f32 4286578688#32) (x (ix2 g j)) := by
    unfold cutTail
    pointwise
  rw [e, select_of Iff.rfl, show Ideal.ofBits .f32 4286578688#32 = (⊥ : EReal) from word_neg_inf]

/-- The sorting order of a row of words that list a permutation leads back to each place. -/
theorem orderI_read (a : IVec S128x100000 32) (σ : Equiv.Perm (Fin 100000)) (ha : ∀ i, a (ix2 g i) = word (σ i)) :
    ∃ i, orderI a (ix2 g j) = word i ∧ σ i = j := by
  unfold orderI
  refine ⟨_, (sort_second_read _ a (iotaInDim S128x100000 32 1) g j).trans (iota_read g _), ?_⟩
  refine sorted_places σ _ (fun u v => ?_) j
  rw [beq_iff_eq]
  show IntOp.cmpi .slt (a (ix2 g u)) (a (ix2 g v)) = 1#1 ↔ _
  rw [slti_one, ha, ha, word_toInt le_rfl, word_toInt le_rfl, Fin.lt_def]
  omega

/-- The reduction's step keeps the better of two entries. -/
theorem reducer_better (a b : EReal × BitVec 32) :
    reducer_argmax_f32_i32 (F := Ideal) a b = if b.1 < a.1 ∨ (a.1 = b.1 ∧ a.2.toInt < b.2.toInt) then a else b := by
  have hv : Ideal.cmp .une a.1 a.1 = 0#1 := by simp [Ideal.cmp]
  have h4 : IntOp.ori (Ideal.cmp .ogt a.1 b.1) (Ideal.cmp .une a.1 a.1) = 1#1 ↔ b.1 < a.1 := by
    rw [ori_one, gt_one, hv]
    simp
  have h8 : IntOp.ori (IntOp.ori (Ideal.cmp .ogt a.1 b.1) (Ideal.cmp .une a.1 a.1)) (IntOp.andi (Ideal.cmp .oeq a.1 b.1) (IntOp.cmpi .slt a.2 b.2)) = 1#1
      ↔ b.1 < a.1 ∨ (a.1 = b.1 ∧ a.2.toInt < b.2.toInt) := by
    rw [ori_one, h4, andi_one, eq_one, slti_one]
  show (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1)) (IntOp.andi (Ideal.cmp .oeq a.1 b.1) (IntOp.cmpi .slt a.2 b.2))) a.2 b.2) = _
  rw [select_of h4, select_of h8]
  by_cases h : b.1 < a.1 ∨ (a.1 = b.1 ∧ a.2.toInt < b.2.toInt)
  · rw [if_pos h, if_pos h]
    rcases h with h | h
    · rw [if_pos h]
    · rw [h.1, ite_self]
      exact Prod.ext h.1.symm rfl
  · rw [if_neg h, if_neg h, if_neg fun h' => h (Or.inl h')]

/-- The place of the first greatest entry of a row. -/
theorem firstMax_read : firstMax x (ix2 g 0) = word (pick (line x g)) := by
  have hm := argmax_read (n := 100000) le_rfl _ reducer_better x (iotaInDim S128x100000 32 1) iota_read (constant S_ .f32 0xFF800000#32)
    (fun _ => word_neg_inf) (constantI S_ 32 0#32) (fun _ => rfl) reducesTo_S128x100000_S128_d1 h_S_ g
  unfold firstMax
  generalize Host.argReduce (F := Ideal) (φ := .f32) reducer_argmax_f32_i32 x (iotaInDim S128x100000 32 1) (constant S_ .f32 0xFF800000#32) (constantI S_ 32 0#32)
    reducesTo_S128x100000_S128_d1 h_S_ = R at hm ⊢
  have e : ∀ T : IVec S128 32, shapeCast S128x1 T shapeCasts_S128_S128x1 (ix2 g 0) = T (ix1 g) := fun T => by
    pointwise
  exact (e _).trans hm

end Cert.ReferenceIdeal.Run

end
-- ==== Proof.RefRow.lean ====
/- The reference's answer, read at a row: the target of the row, where the row is fit to be sampled from. -/
module

public import proofs.«01_k».proof.Proof.RefReads

@[expose] public section

noncomputable section

namespace Cert.ReferenceIdeal.Run

open Finset Cert.ReferenceIdeal Cert.ReferenceIdeal.Gen Cert.Rows Idealize.ShloMosaic
open Idealize.ShloMosaic.ValueIdx hiding ix1 ix2 ix3
open scoped Classical

variable {x q : FVec Ideal S128x100000 .f32} {k : IVec S128 32} {K : Fin 128 → Fin 68} {g : Fin 128}

/-- The sorted row. -/
theorem sorted_read (x : FVec Ideal S128x100000 .f32) (g : Fin 128) (j : Fin 100000) :
    along x (order x) (ix2 g j) = line x g (rowPerm (line x g) j) :=
  along_read x g j (order x) _ (order_read x g j)

/-- The threshold of a row is its cutoff. -/
theorem threshold_read (h : Fit x k q K g) : alongOne (along x (order x)) (kth k) (ix2 g 0) = cutoff x K g := by
  have ht := (K g).isLt
  rw [alongOne_read (along x (order x)) g (kth k) _ ((kth_read g k).trans (sub_word h.rank)), sorted_read]
  exact sorted_val (x := line x g) (t := (K g).val) _ (by show 99999 - (K g).val + ((K g).val + 1) = 100000; omega)

/-- The sorted row after the first cut. -/
theorem topK_read (h : Fit x k q K g) (j : Fin 100000) :
    topK x k (ix2 g j) = if line x g (rowPerm (line x g) j) < cutoff x K g then ⊥ else line x g (rowPerm (line x g) j) := by
  unfold topK
  rw [cut_read, sorted_read, threshold_read h]

/-- The probabilities along the sorted row. -/
theorem prob_read (h : Fit x k q K g) (j : Fin 100000) :
    softmax (topK x k) (ix2 g j) = prob (line x g) (cutoff x K g) (rowPerm (line x g) j) := by
  rw [softmax_read, ← soft_first h.good]
  refine Eq.trans ?_ (soft_perm (fun i => if line x g i < cutoff x K g then ⊥ else line x g i) (rowPerm (line x g)) j)
  exact congrArg (fun w => soft w j) (funext fun i => topK_read h i)

/-- The running sum along the sorted row. -/
theorem cum_read (h : Fit x k q K g) (j : Fin 100000) :
    cumsum (softmax (topK x k)) (ix2 g j) = cum (line x g) (cutoff x K g) (rowPerm (line x g) j) := by
  rw [cumsum_read', ← sum_sorted]
  exact sum_congr rfl fun i _ => by rw [prob_read h]

/-- The sorted row after both cuts. -/
theorem topP_read (h : Fit x k q K g) (p : FVec Ideal S128 .f32) (j : Fin 100000) :
    topP x k p (ix2 g j) = if Kept (line x g) (cutoff x K g) (1 - p (ix1 g)) (rowPerm (line x g) j) then line x g (rowPerm (line x g) j) else ⊥ := by
  rw [← cut_sorted]
  unfold topP
  have hd : dropped (low (cumsum (softmax (topK x k))) p) (ix2 g j) = 1#1
      ↔ cum (line x g) (cutoff x K g) (rowPerm (line x g) j) ≤ 1 - p (ix1 g) ∧ ¬ j.val + 1 = 100000 := by
    rw [dropped_read, low_read, cum_read h]
  rw [cutTail_read, topK_read h]
  exact if_congr hd rfl rfl

/-- The row after both cuts, in its own order. -/
theorem back_read (h : Fit x k q K g) (p : FVec Ideal S128 .f32) (i : Fin 100000) :
    along (topP x k p) (orderI (order x)) (ix2 g i)
      = if Kept (line x g) (cutoff x K g) (1 - p (ix1 g)) i then line x g i else ⊥ := by
  obtain ⟨j, hj, hi⟩ := orderI_read g i (order x) (rowPerm (line x g)) (order_read x g)
  rw [along_read (topP x k p) g i (orderI (order x)) j hj, topP_read h, hi]

/-- The scores of a row. -/
theorem score_read (h : Fit x k q K g) (p : FVec Ideal S128 .f32) (i : Fin 100000) :
    Host.divf (softmax (along (topP x k p) (orderI (order x)))) q (ix2 g i)
      = score (line x g) (cutoff x K g) (1 - p (ix1 g)) (line q g) i := by
  rw [← soft_second h.good]
  show Ideal.div (softmax (along (topP x k p) (orderI (order x))) (ix2 g i)) (q (ix2 g i)) = Ideal.div _ (q (ix2 g i))
  rw [softmax_read]
  exact congrArg (fun w => Ideal.div (soft w i) (q (ix2 g i))) (funext fun l => back_read h p l)

/-- The reference's answer at a row. -/
theorem answer_read (h : Fit x k q K g) (p : FVec Ideal S128 .f32) : answer x k p q (ix2 g 0) = word (target x K p q g) := by
  unfold answer
  rw [firstMax_read]
  exact congrArg (fun w => word (pick w)) (funext fun i => score_read h p i)

/-- The reference's answer, where every row is fit to be sampled from. -/
theorem answer_eq (h : ∀ g, Fit x k q K g) (p : FVec Ideal S128 .f32) :
    answer x k p q = fun j : S128x1.Idx => word (target x K p q (j 0)) := by
  funext j
  have e : j = ix2 (j 0) 0 := by
    funext a
    match a with
    | ⟨0, _⟩ => rfl
    | ⟨1, _⟩ => exact Subsingleton.elim (α := Fin 1) _ _
  rw [e]
  exact answer_read (h (j 0)) p

end Cert.ReferenceIdeal.Run

end
-- ==== Proof.Drawn.lean ====
/- What the precondition says of the arguments: every row is fit to be sampled from. -/
module

public import proofs.«01_k».proof.Pre_drawn
public import proofs.«01_k».proof.Proof.ArrayReads
public import proofs.«01_k».proof.Proof.SortedRow
public import proofs.«01_k».proof.Proof.Target

@[expose] public section

noncomputable section

namespace Cert.Pre_drawn

open Finset Cert.Rows Idealize.ShloMosaic
open Idealize.ShloMosaic.ValueIdx hiding ix1 ix2 ix3

/-- The side conditions of the precondition's operations. -/
theorem facts : Facts where
  bcast_S_S128 := by decide
  bcast_S128_S128x1_0 := by decide
  bcast_S128x1_S128x100000_0_1 := by decide
  slices_S128x100000_S128x1_0_99931 := by decide
  bcast_S_S128x100000 := by decide

variable [Facts] (x q : FVec Ideal S128x100000 .f32) (k : IVec S128 32) (p : FVec Ideal S128 .f32) (g : Fin 128) (j : Fin 100000)

/-- The comparison the logits are sorted by holds exactly where the first is smaller. -/
theorem comparator_one (l r : EReal) : comparator_f32_d1 (F := Ideal) (l : EReal) (r : EReal) = 1#1 ↔ l < r := by
  show Ideal.cmp .olt (Scalar.select (Ideal.cmp .une l l) _ (Scalar.select (Ideal.cmp .oeq l (Ideal.ofBits .f32 0#32)) (Ideal.ofBits .f32 0#32) l))
    (Scalar.select (Ideal.cmp .une r r) _ (Scalar.select (Ideal.cmp .oeq r (Ideal.ofBits .f32 0#32)) (Ideal.ofBits .f32 0#32) r)) = 1#1 ↔ _
  rw [canonical_read, canonical_read]
  exact lt_one _ _

/-- The sorted logits. -/
theorem sorted_read : fn_sort x (ix2 g j) = line x g (rowPerm (line x g) j) := by
  unfold fn_sort
  refine (sort_read _ x g j).trans (congrArg (fun i => x (ix2 g i)) ?_)
  exact sortedFrom_eq_rowPerm (line x g) _ (fun a b => by rw [beq_iff_eq]; exact comparator_one _ _) j

/-- The first output: the logit is below +∞. -/
theorem logit_read : (fn (F := Ideal) x k p q).1 (ix2 g j) = 1#1 ↔ x (ix2 g j) < ⊤ := by
  have e : (fn (F := Ideal) x k p q).1 (ix2 g j) = BitVec.ofBool (decide (x (ix2 g j) < Ideal.ofBits .f32 2139095040#32)) := by
    unfold fn fn_part1
    dsimp only
    pointwise
  rw [e, ofBool_one, show Ideal.ofBits .f32 2139095040#32 = (⊤ : EReal) from word_pos_inf]

/-- The second output: the rank is from 1 to 63. -/
theorem rank_read : (fn (F := Ideal) x k p q).2.1 (ix1 g) = 1#1 ↔ 1 ≤ (k (ix1 g)).toInt ∧ (k (ix1 g)).toInt < 64 := by
  have e : (fn (F := Ideal) x k p q).2.1 (ix1 g) = IntOp.andi (IntOp.cmpi .sge (k (ix1 g)) 1#32) (IntOp.cmpi .slt (k (ix1 g)) 64#32) := by
    unfold fn fn_part1
    dsimp only
    pointwise
  have h1 : IntOp.cmpi .sge (k (ix1 g)) 1#32 = 1#1 ↔ 1 ≤ (k (ix1 g)).toInt := by
    show BitVec.ofBool ((1#32).sle (k (ix1 g))) = 1#1 ↔ _
    rw [BitVec.sle_eq_decide, ofBool_one]
    rfl
  rw [e, andi_one, h1, slti_one]
  rfl

/-- The third output: the noise is above 0 and below +∞. -/
theorem noise_read : (fn (F := Ideal) x k p q).2.2.1 (ix2 g j) = 1#1 ↔ 0 < q (ix2 g j) ∧ q (ix2 g j) < ⊤ := by
  have e : (fn (F := Ideal) x k p q).2.2.1 (ix2 g j)
      = IntOp.andi (BitVec.ofBool (decide (0 < q (ix2 g j)))) (BitVec.ofBool (decide (q (ix2 g j) < Ideal.ofBits .f32 2139095040#32))) := by
    unfold fn fn_part1
    dsimp only
    pointwise
  rw [e, andi_one, ofBool_one, ofBool_one, show Ideal.ofBits .f32 2139095040#32 = (⊤ : EReal) from word_pos_inf]

/-- The fourth output: from the k-th greatest on, the sorted logits are above the one at place 99931. -/
theorem clear_read (i : Fin 100000) (hi : IntOp.subi 100000#32 (k (ix1 g)) = word i) (h : (fn (F := Ideal) x k p q).2.2.2 (ix2 g i) = 1#1) :
    line x g (rowPerm (line x g) 99931) < line x g (rowPerm (line x g) i) := by
  have e : (fn (F := Ideal) x k p q).2.2.2 (ix2 g i)
      = IntOp.ori (~~~IntOp.cmpi .sge (BitVec.ofNat 32 i.val) (IntOp.subi 100000#32 (k (ix1 g))))
          (BitVec.ofBool (decide (fn_sort x (ix2 g 99931) < fn_sort x (ix2 g i)))) := by
    unfold fn fn_part1
    dsimp only
    pointwise
  have hs : IntOp.cmpi .sge (BitVec.ofNat 32 i.val) (word i) = 1#1 := (word_sge (n := 100000) le_rfl i i).2 le_rfl
  rw [e, hi, hs, ori_one, ofBool_one, sorted_read, sorted_read] at h
  exact h.resolve_left (by decide)

/-- Under the precondition every row is fit to be sampled from. -/
theorem fit (h1 : (fn (F := Ideal) x k p q).1 = fun _ => 1#1) (h2 : (fn (F := Ideal) x k p q).2.1 = fun _ => 1#1)
    (h3 : (fn (F := Ideal) x k p q).2.2.1 = fun _ => 1#1) (h4 : (fn (F := Ideal) x k p q).2.2.2 = fun _ => 1#1) :
    ∃ K : Fin 128 → Fin 68, ∀ g, Fit x k q K g := by
  have hk : ∀ g, ∃ t : Fin 68, IntOp.subi (k (ix1 g)) 1#32 = word t := fun g => by
    obtain ⟨hl, hu⟩ := (rank_read x q k p g).1 (congrFun h2 (ix1 g))
    generalize k (ix1 g) = w at hl hu
    have hw : w.toInt = w.toNat := by
      rw [BitVec.toInt_eq_toNat_cond] at hl hu ⊢
      split at hl <;> split <;> omega
    rw [hw] at hl hu
    refine ⟨⟨w.toNat - 1, by omega⟩, ?_⟩
    show w - 1#32 = BitVec.ofNat 32 (w.toNat - 1)
    apply BitVec.eq_of_toNat_eq
    simp only [BitVec.toNat_sub, BitVec.toNat_ofNat]
    omega
  choose K hK using hk
  refine ⟨K, fun g => ?_⟩
  have ht := (K g).isLt
  have hv : line x g (rowPerm (line x g) ⟨99999 - (K g).val, by omega⟩) = cutoff x K g :=
    sorted_val (x := line x g) (t := (K g).val) _ (by show 99999 - (K g).val + ((K g).val + 1) = 100000; omega)
  have hc : line x g (rowPerm (line x g) 99931) < cutoff x K g := by
    rw [← hv]
    exact clear_read x q k p g _ (sub_word (hK g)) (congrFun h4 _)
  exact {
    rank := hK g
    good := {
      lt_top := fun i => (logit_read x q k p g i).1 (congrFun h1 _)
      bot_lt := lt_of_le_of_lt bot_le hc
      reach := ⟨_, hv.ge⟩
      q_pos := fun i => ((noise_read x q k p g i).1 (congrFun h3 _)).1
      q_lt := fun i => ((noise_read x q k p g i).1 (congrFun h3 _)).2 }
    few := card_above (l := 68) 99931 rfl hc }

end Cert.Pre_drawn

end
-- ==== Proof.lean ====
/- The claims of the sampler, assembled: the kernel and the reference write the same ids, under the precondition, and
   every program keeps its arguments and its counters. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelArray
public import proofs.«01_k».proof.Proof.ReferenceRun
public import proofs.«01_k».proof.Proof.RefRow
public import proofs.«01_k».proof.Proof.Drawn
public import Idealize.ShloMosaic.Adequacy
public import Idealize.ShloMosaic.Init

@[expose] public section

noncomputable section

namespace Cert.Proof

open Cert.Rows Idealize.ShloMosaic Idealize.SL.Sem

/-- The programs' side conditions, used where a claim is stated under them. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_drawn.Facts := Cert.Pre_drawn.facts

/-- Under the precondition every row of every device's arrays is fit to be sampled from. -/
theorem fits (m : (ℓ : Loc Cert.KernelIdeal.nD Cert.KernelIdeal.τ Cert.KernelIdeal.sig) → Buf (Elt Ideal) ℓ) (h : Cert.Pre_KernelIdeal_drawn m) :
    ∃ K : Dev Cert.KernelIdeal.nD → Fin 128 → Fin 68, ∀ c g,
      Fit (Cert.KernelIdeal.Rows.logits m c) (Cert.KernelIdeal.Rows.ranks m c) (Cert.KernelIdeal.Rows.noise m c) (K c) g := by
  choose K hK using fun c => Cert.Pre_drawn.fit (Cert.KernelIdeal.Rows.logits m c) (Cert.KernelIdeal.Rows.noise m c)
    (Cert.KernelIdeal.Rows.ranks m c) (Cert.KernelIdeal.Rows.masses m c) (h c).1 (h c).2.1 (h c).2.2.1 (h c).2.2.2
  exact ⟨K, hK⟩

/-- Under the precondition the kernel and the reference write the same ids, those of the rows' targets, and keep their
    arguments. -/
theorem algebraic : Cert.algebraic_KernelIdeal_ReferenceIdeal_pre_drawn := by
  intro m g m' g' hpre hargs
  obtain ⟨K, hK⟩ := fits m hpre
  refine ⟨fun c => fun j : Cert.KernelIdeal.S128x1.Idx => word (target (Cert.KernelIdeal.Rows.logits m c) (K c) (Cert.KernelIdeal.Rows.masses m c)
    (Cert.KernelIdeal.Rows.noise m c) (j 0)), ?_, ?_⟩
  · refine (θ_run _ _ _).mono (fun r h c => ?_) (Cert.KernelIdeal.Value.run_blocks m g)
    obtain ⟨h0, hk⟩ := h c
    exact ⟨h0.trans (Cert.KernelIdeal.Rows.final m c (K c) (hK c)), hk⟩
  · refine (θ_run _ _ _).mono (fun r h c => ?_) (Cert.ReferenceIdeal.Run.run m' g')
    obtain ⟨h0, hk⟩ := h c
    obtain ⟨a0, a1, a2, a3⟩ := hargs c
    refine ⟨?_, hk⟩
    rw [a0, a1, a2, a3] at h0
    exact h0.trans (Cert.ReferenceIdeal.Run.answer_eq (hK c) _)

/-- All the claims. -/
theorem claim : Cert.Claim :=
  ⟨Cert.Kernel.Gen.facts, Cert.KernelIdeal.Gen.facts, Cert.ReferenceIdeal.Gen.facts, Cert.Pre_drawn.facts,
    fun m g _ => Cert.Kernel.Gen.frame m g,
    fun m g _ => Cert.KernelIdeal.Gen.frame m g,
    fun m g _ => Cert.KernelIdeal.Gen.frame m g,
    fun m g _ => Cert.ReferenceIdeal.Run.frame m g,
    fun m g _ => Cert.ReferenceIdeal.Run.frame m g,
    trivial,
    algebraic⟩

end Cert.Proof

end
